-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_logits [hPre_real_logits : Cert.Pre_real_logits.Facts] (m : (ℓ : Loc Cert.KernelIdeal.nD Cert.KernelIdeal.τ Cert.KernelIdeal.sig) → Buf (Elt Ideal) ℓ) : Prop :=
  ∀ c : Dev Cert.KernelIdeal.nD,
    (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_logits [hPre_real_logits : Cert.Pre_real_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_real_logits [hKernelIdeal : Cert.KernelIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_real_logits [hReferenceIdeal : Cert.ReferenceIdeal.Facts] [hPre_real_logits : Cert.Pre_real_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_real_logits [hKernelIdeal : Cert.KernelIdeal.Facts] [hReferenceIdeal : Cert.ReferenceIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_real_logits : Cert.Pre_real_logits.Facts),
    quiescent_Kernel (hKernel := hKernel)
    ∧ quiescent_KernelIdeal (hKernelIdeal := hKernelIdeal)
    ∧ quiescent_KernelIdeal_pre_real_logits (hKernelIdeal := hKernelIdeal) (hPre_real_logits := hPre_real_logits)
    ∧ quiescent_ReferenceIdeal (hReferenceIdeal := hReferenceIdeal)
    ∧ quiescent_ReferenceIdeal_pre_real_logits (hReferenceIdeal := hReferenceIdeal) (hPre_real_logits := hPre_real_logits)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_real_logits (hKernelIdeal := hKernelIdeal) (hReferenceIdeal := hReferenceIdeal) (hPre_real_logits := hPre_real_logits)
    ∧ preserves_Kernel2_Kernel2Ideal
    ∧ algebraic_Kernel2Ideal_Reference2Ideal (hKernel2Ideal := hKernel2Ideal) (hReference2Ideal := hReference2Ideal)
-- ==== Pre_real_logits.lean ====
abbrev S8x1024x4096 : Shape := ⟨3, ![8, 1024, 4096]⟩
abbrev S8x4096x1024 : Shape := ⟨3, ![8, 4096, 1024]⟩
abbrev S8x1280x4096 : Shape := ⟨3, ![8, 1280, 4096]⟩
abbrev S8x4096x128 : Shape := ⟨3, ![8, 4096, 128]⟩
abbrev S8x16x80x4096 : Shape := ⟨4, ![8, 16, 80, 4096]⟩
abbrev S8x16x1x4096 : Shape := ⟨4, ![8, 16, 1, 4096]⟩
abbrev S8x16x4096 : Shape := ⟨3, ![8, 16, 4096]⟩
abbrev S_ : Shape := ⟨0, ![]⟩
abbrev S8x4096x48 : Shape := ⟨3, ![8, 4096, 48]⟩

class Facts : Prop where
  bitsLt_bf16_f32 : FTy.bits .bf16 < FTy.bits .f32
  shapeCasts_S8x1280x4096_S8x16x80x4096 : S8x1280x4096.ShapeCasts S8x16x80x4096
  slices_S8x16x80x4096_S8x16x1x4096_0_0_64_0 : S8x16x80x4096.Slices ![0, 0, 64, 0] S8x16x1x4096
  shapeCasts_S8x16x1x4096_S8x16x4096 : S8x16x1x4096.ShapeCasts S8x16x4096
  bcast_S_S8x1024x4096 : S_.BroadcastsInDim S8x1024x4096 (![] : Fin 0 → Fin S8x1024x4096.rank)
  bcast_S_S8x4096x1024 : S_.BroadcastsInDim S8x4096x1024 (![] : Fin 0 → Fin S8x4096x1024.rank)
  slices_S8x4096x128_S8x4096x48_0_0_0 : S8x4096x128.Slices ![0, 0, 0] S8x4096x48
  bcast_S_S8x4096x48 : S_.BroadcastsInDim S8x4096x48 (![] : Fin 0 → Fin S8x4096x48.rank)
  bcast_S_S8x16x4096 : S_.BroadcastsInDim S8x16x4096 (![] : Fin 0 → Fin S8x16x4096.rank)

variable [Facts]

def fn {F : FTy → Type} [FloatOps F] (main_arg0 : FVec F S8x1024x4096 .bf16) (main_arg1 : FVec F S8x4096x1024 .bf16) (main_arg2 : FVec F S8x1280x4096 .bf16) (main_arg3 : FVec F S8x4096x128 .bf16) : IVec S8x1024x4096 1 × IVec S8x4096x1024 1 × IVec S8x4096x48 1 × IVec S8x16x4096 1 :=
  let main_v0 : FVec F S8x1280x4096 .f32 := (extf .f32 · bitsLt_bf16_f32) main_arg2
  let main_v1 : FVec F S8x16x80x4096 .f32 := shapeCast S8x16x80x4096 main_v0 shapeCasts_S8x1280x4096_S8x16x80x4096
  let main_v2 : FVec F S8x16x1x4096 .f32 := (extractStridedSlice S8x16x1x4096 ![0, 0, 64, 0] · slices_S8x16x80x4096_S8x16x1x4096_0_0_64_0) main_v1
  let main_v3 : FVec F S8x16x4096 .f32 := shapeCast S8x16x4096 main_v2 shapeCasts_S8x16x1x4096_S8x16x4096
  let main_v4 : FVec F S8x1024x4096 .f32 := (extf .f32 · bitsLt_bf16_f32) main_arg0
  let main_v5 : FVec F S8x1024x4096 .f32 := Host.absf main_v4
  let main_cst : FVec F S_ .f32 := constant S_ .f32 0x7F800000#32
  let main_v6 : FVec F S8x1024x4096 .f32 := broadcastInDim S8x1024x4096 ![] bcast_S_S8x1024x4096 main_cst
  let main_v7 : IVec S8x1024x4096 1 := cmpf .olt main_v5 main_v6
  let main_v8 : FVec F S8x4096x1024 .f32 := (extf .f32 · bitsLt_bf16_f32) main_arg1
  let main_v9 : FVec F S8x4096x1024 .f32 := Host.absf main_v8
  let main_cst_0 : FVec F S_ .f32 := constant S_ .f32 0x7F800000#32
  let main_v10 : FVec F S8x4096x1024 .f32 := broadcastInDim S8x4096x1024 ![] bcast_S_S8x4096x1024 main_cst_0
  let main_v11 : IVec S8x4096x1024 1 := cmpf .olt main_v9 main_v10
  let main_v12 : FVec F S8x4096x128 .f32 := (extf .f32 · bitsLt_bf16_f32) main_arg3
  let main_v13 : FVec F S8x4096x48 .f32 := (extractStridedSlice S8x4096x48 ![0, 0, 0] · slices_S8x4096x128_S8x4096x48_0_0_0) main_v12
  let main_v14 : FVec F S8x4096x48 .f32 := Host.absf main_v13
  let main_cst_1 : FVec F S_ .f32 := constant S_ .f32 0x7F800000#32
  let main_v15 : FVec F S8x4096x48 .f32 := broadcastInDim S8x4096x48 ![] bcast_S_S8x4096x48 main_cst_1
  let main_v16 : IVec S8x4096x48 1 := cmpf .olt main_v14 main_v15
  let main_cst_2 : FVec F S_ .f32 := constant S_ .f32 0x3F800000#32
  let main_v17 : FVec F S8x16x4096 .f32 := broadcastInDim S8x16x4096 ![] bcast_S_S8x16x4096 main_cst_2
  let main_v18 : IVec S8x16x4096 1 := cmpf .oeq main_v3 main_v17
  (main_v7, main_v11, main_v16, main_v18)
-- ==== Kernel.lean ====
abbrev S8x1024x4096 : Shape := ⟨3, ![8, 1024, 4096]⟩
abbrev S8x4096x1024 : Shape := ⟨3, ![8, 4096, 1024]⟩
abbrev S8x1280x4096 : Shape := ⟨3, ![8, 1280, 4096]⟩
abbrev S8x4096x128 : Shape := ⟨3, ![8, 4096, 128]⟩
abbrev S8x2x128x512 : Shape := ⟨4, ![8, 2, 128, 512]⟩
abbrev S_ : Shape := ⟨0, ![]⟩
abbrev S512x512 : Shape := ⟨2, ![512, 512]⟩
abbrev S1 : Shape := ⟨1, ![1]⟩
abbrev S1x128x4096 : Shape := ⟨3, ![1, 128, 4096]⟩
abbrev S1x4096x128 : Shape := ⟨3, ![1, 4096, 128]⟩
abbrev S1x160x4096 : Shape := ⟨3, ![1, 160, 4096]⟩
abbrev S1x2x128x512 : Shape := ⟨4, ![1, 2, 128, 512]⟩
abbrev S2x512x512 : Shape := ⟨3, ![2, 512, 512]⟩
abbrev S2x1x512 : Shape := ⟨3, ![2, 1, 512]⟩
abbrev S1x512 : Shape := ⟨2, ![1, 512]⟩
abbrev S80x512 : Shape := ⟨2, ![80, 512]⟩
abbrev S1x256x128 : Shape := ⟨3, ![1, 256, 128]⟩
abbrev S256x128 : Shape := ⟨2, ![256, 128]⟩
abbrev S256x256 : Shape := ⟨2, ![256, 256]⟩
abbrev S64x512 : Shape := ⟨2, ![64, 512]⟩
abbrev S1x64x512 : Shape := ⟨3, ![1, 64, 512]⟩
abbrev S1x1x128x512 : Shape := ⟨4, ![1, 1, 128, 512]⟩
abbrev S128x512 : Shape := ⟨2, ![128, 512]⟩
abbrev S256x512 : Shape := ⟨2, ![256, 512]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x80x256 : Shape := ⟨3, ![1, 80, 256]⟩
abbrev S80x256 : Shape := ⟨2, ![80, 256]⟩
abbrev S1x512x512 : Shape := ⟨3, ![1, 512, 512]⟩
abbrev S512 : Shape := ⟨1, ![512]⟩
abbrev S1x1x512 : Shape := ⟨3, ![1, 1, 512]⟩
abbrev S1x80x512 : Shape := ⟨3, ![1, 80, 512]⟩

abbrev nBuf : Space → Nat
  | .hbm => 30
  | .vmem => 26
  | .smem => 1
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x1280x4096, .bf16⟩
  | .hbm, ⟨3, _⟩ => ⟨S8x4096x128, .bf16⟩
  | .hbm, ⟨4, _⟩ => ⟨S8x2x128x512, .i32⟩
  | .hbm, ⟨5, _⟩ => ⟨S_, .i32⟩
  | .hbm, ⟨6, _⟩ => ⟨S8x2x128x512, .i32⟩
  | .hbm, ⟨7, _⟩ => ⟨S8x2x128x512, .i32⟩
  | .hbm, ⟨8, _⟩ => ⟨S8x2x128x512, .i32⟩
  | .hbm, ⟨9, _⟩ => ⟨S8x2x128x512, .i32⟩
  | .hbm, ⟨10, _⟩ => ⟨S_, .i32⟩
  | .hbm, ⟨11, _⟩ => ⟨S8x2x128x512, .i32⟩
  | .hbm, ⟨12, _⟩ => ⟨S8x2x128x512, .i32⟩
  | .hbm, ⟨13, _⟩ => ⟨S8x2x128x512, .i32⟩
  | .hbm, ⟨14, _⟩ => ⟨S8x2x128x512, .i1⟩
  | .hbm, ⟨15, _⟩ => ⟨S_, .i32⟩
  | .hbm, ⟨16, _⟩ => ⟨S8x2x128x512, .i32⟩
  | .hbm, ⟨17, _⟩ => ⟨S8x2x128x512, .i32⟩
  | .hbm, ⟨18, _⟩ => ⟨S8x2x128x512, .i1⟩
  | .hbm, ⟨19, _⟩ => ⟨S8x2x128x512, .i1⟩
  | .hbm, ⟨20, _⟩ => ⟨S_, .f32⟩
  | .hbm, ⟨21, _⟩ => ⟨S_, .f32⟩
  | .hbm, ⟨22, _⟩ => ⟨S8x2x128x512, .f32⟩
  | .hbm, ⟨23, _⟩ => ⟨S8x2x128x512, .f32⟩
  | .hbm, ⟨24, _⟩ => ⟨S8x2x128x512, .f32⟩
  | .hbm, ⟨25, _⟩ => ⟨S512x512, .f32⟩
  | .hbm, ⟨26, _⟩ => ⟨S_, .i32⟩
  | .hbm, ⟨27, _⟩ => ⟨S1, .i32⟩
  | .hbm, ⟨28, _⟩ => ⟨S8x2x128x512, .bf16⟩
  | .hbm, ⟨29, _⟩ => ⟨S8x4096x1024, .bf16⟩
  | .local _ .vmem, ⟨0, _⟩ => ⟨S512x512, .f32⟩
  | .local _ .vmem, ⟨1, _⟩ => ⟨S1x128x4096, .bf16⟩
  | .local _ .vmem, ⟨2, _⟩ => ⟨S1x128x4096, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x160x4096, .bf16⟩
  | .local _ .vmem, ⟨6, _⟩ => ⟨S1x160x4096, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x2x128x512, .bf16⟩
  | .local _ .vmem, ⟨10, _⟩ => ⟨S1x2x128x512, .bf16⟩
  | .local _ .vmem, ⟨11, _⟩ => ⟨S512x512, .f32⟩
  | .local _ .vmem, ⟨12, _⟩ => ⟨S1x4096x128, .bf16⟩
  | .local _ .vmem, ⟨13, _⟩ => ⟨S1x4096x128, .bf16⟩
  | .local _ .vmem, ⟨14, _⟩ => ⟨S2x512x512, .f32⟩
  | .local _ .vmem, ⟨15, _⟩ => ⟨S2x512x512, .f32⟩
  | .local _ .vmem, ⟨16, _⟩ => ⟨S2x1x512, .f32⟩
  | .local _ .vmem, ⟨17, _⟩ => ⟨S2x1x512, .f32⟩
  | .local _ .vmem, ⟨18, _⟩ => ⟨S1x512, .f32⟩
  | .local _ .vmem, ⟨19, _⟩ => ⟨S80x512, .f32⟩
  | .local _ .vmem, ⟨20, _⟩ => ⟨S1x512, .f32⟩
  | .local _ .vmem, ⟨21, _⟩ => ⟨S80x512, .f32⟩
  | .local _ .vmem, ⟨22, _⟩ => ⟨S1x512, .f32⟩
  | .local _ .vmem, ⟨23, _⟩ => ⟨S80x512, .f32⟩
  | .local _ .vmem, ⟨24, _⟩ => ⟨S1x512, .f32⟩
  | .local _ .vmem, ⟨25, _⟩ => ⟨S80x512, .f32⟩
  | .local _ .smem, ⟨0, _⟩ => ⟨S1, .i32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc1_scratch5 : Ref sig .tc := ⟨.vmem, 19, rfl⟩
abbrev cc1_scratch6 : Ref sig .tc := ⟨.vmem, 20, rfl⟩
abbrev cc1_scratch7 : Ref sig .tc := ⟨.vmem, 21, rfl⟩
abbrev cc1_scratch8 : Ref sig .tc := ⟨.vmem, 22, rfl⟩
abbrev cc1_scratch9 : Ref sig .tc := ⟨.vmem, 23, rfl⟩
abbrev cc1_scratch10 : Ref sig .tc := ⟨.vmem, 24, rfl⟩
abbrev cc1_scratch11 : Ref sig .tc := ⟨.vmem, 25, rfl⟩
abbrev cc1_stg0_0 : Ref sig .tc := ⟨.smem, 0, rfl⟩
abbrev cc0_sem0_0 : DmaSem sig := 0
abbrev cc1_sem0_0 : DmaSem sig := 1
abbrev cc1_sem1_0 : DmaSem sig := 2
abbrev cc1_sem1_1 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨2, ![8, 8], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x160x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x2x128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x4096x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8x1024x4096 : Shape := ⟨3, ![8, 1024, 4096]⟩
abbrev S8x4096x1024 : Shape := ⟨3, ![8, 4096, 1024]⟩
abbrev S8x1280x4096 : Shape := ⟨3, ![8, 1280, 4096]⟩
abbrev S8x4096x128 : Shape := ⟨3, ![8, 4096, 128]⟩
abbrev S8x16x64x4096 : Shape := ⟨4, ![8, 16, 64, 4096]⟩
abbrev S8x4096x16x64 : Shape := ⟨4, ![8, 4096, 16, 64]⟩
abbrev S8x16x80x4096 : Shape := ⟨4, ![8, 16, 80, 4096]⟩
abbrev S8x4096x48 : Shape := ⟨3, ![8, 4096, 48]⟩
abbrev S8x4096x16x3 : Shape := ⟨4, ![8, 4096, 16, 3]⟩
abbrev S_ : Shape := ⟨0, ![]⟩
abbrev S8x4096x16 : Shape := ⟨3, ![8, 4096, 16]⟩
abbrev S8x16x4096 : Shape := ⟨3, ![8, 16, 4096]⟩
abbrev S4096x4096 : Shape := ⟨2, ![4096, 4096]⟩
abbrev S8x16x4096x4096 : Shape := ⟨4, ![8, 16, 4096, 4096]⟩
abbrev S8x16x4096x1 : Shape := ⟨4, ![8, 16, 4096, 1]⟩
abbrev S8x16x1x4096 : Shape := ⟨4, ![8, 16, 1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x1280x4096, .bf16⟩
  | .hbm, ⟨3, _⟩ => ⟨S8x4096x128, .bf16⟩
  | .hbm, ⟨4, _⟩ => ⟨S8x1024x4096, .f32⟩
  | .hbm, ⟨5, _⟩ => ⟨S8x16x64x4096, .f32⟩
  | .hbm, ⟨6, _⟩ => ⟨S8x4096x1024, .f32⟩
  | .hbm, ⟨7, _⟩ => ⟨S8x4096x16x64, .f32⟩
  | .hbm, ⟨8, _⟩ => ⟨S8x1280x4096, .f32⟩
  | .hbm, ⟨9, _⟩ => ⟨S8x16x80x4096, .f32⟩
  | .hbm, ⟨10, _⟩ => ⟨S8x16x64x4096, .f32⟩
  | .hbm, ⟨11, _⟩ => ⟨S8x4096x128, .f32⟩
  | .hbm, ⟨12, _⟩ => ⟨S8x4096x48, .f32⟩
  | .hbm, ⟨13, _⟩ => ⟨S8x4096x16x3, .f32⟩
  | .hbm, ⟨14, _⟩ => ⟨S_, .f32⟩
  | .hbm, ⟨15, _⟩ => ⟨S8x4096x16, .f32⟩
  | .hbm, ⟨16, _⟩ => ⟨S8x4096x16, .f32⟩
  | .hbm, ⟨17, _⟩ => ⟨S8x16x4096, .f32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S8x16x4096x4096, .f32⟩
  | .hbm, ⟨22, _⟩ => ⟨S8x16x4096x1, .f32⟩
  | .hbm, ⟨23, _⟩ => ⟨S8x16x1x4096, .f32⟩
  | .hbm, ⟨24, _⟩ => ⟨S8x16x4096x4096, .f32⟩
  | .hbm, ⟨25, _⟩ => ⟨S8x16x4096x4096, .f32⟩
  | .hbm, ⟨26, _⟩ => ⟨S8x16x4096x4096, .f32⟩
  | .hbm, ⟨27, _⟩ => ⟨S8x16x4096x4096, .f32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x16x4096x4096, .i1⟩
  | .hbm, ⟨34, _⟩ => ⟨S8x16x4096x4096, .f32⟩
  | .hbm, ⟨35, _⟩ => ⟨S8x16x4096x4096, .f32⟩
  | .hbm, ⟨36, _⟩ => ⟨S_, .f32⟩
  | .hbm, ⟨37, _⟩ => ⟨S_, .f32⟩
  | .hbm, ⟨38, _⟩ => ⟨S8x16x4096x4096, .f32⟩
  | .hbm, ⟨39, _⟩ => ⟨S8x16x4096x4096, .f32⟩
  | .hbm, ⟨40, _⟩ => ⟨S_, .f32⟩
  | .hbm, ⟨41, _⟩ => ⟨S8x16x4096, .f32⟩
  | .hbm, ⟨42, _⟩ => ⟨S_, .f32⟩
  | .hbm, ⟨43, _⟩ => ⟨S8x16x4096, .f32⟩
  | .hbm, ⟨44, _⟩ => ⟨S8x16x4096, .f32⟩
  | .hbm, ⟨45, _⟩ => ⟨S8x16x4096x1, .f32⟩
  | .hbm, ⟨46, _⟩ => ⟨S8x16x4096x4096, .f32⟩
  | .hbm, ⟨47, _⟩ => ⟨S8x16x4096x4096, .f32⟩
  | .hbm, ⟨48, _⟩ => ⟨S8x16x4096x4096, .f32⟩
  | .hbm, ⟨49, _⟩ => ⟨S_, .f32⟩
  | .hbm, ⟨50, _⟩ => ⟨S8x16x4096, .f32⟩
  | .hbm, ⟨51, _⟩ => ⟨S8x16x4096x1, .f32⟩
  | .hbm, ⟨52, _⟩ => ⟨S8x16x4096x4096, .f32⟩
  | .hbm, ⟨53, _⟩ => ⟨S8x16x4096x4096, .f32⟩
  | .hbm, ⟨54, _⟩ => ⟨S8x16x64x4096, .f32⟩
  | .hbm, ⟨55, _⟩ => ⟨S8x4096x16x64, .f32⟩
  | .hbm, ⟨56, _⟩ => ⟨S8x4096x1024, .f32⟩
  | .hbm, ⟨57, _⟩ => ⟨S8x4096x1024, .bf16⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x1024x1024 : Shape := ⟨3, ![1, 1024, 1024]⟩
abbrev S2x1032x256 : Shape := ⟨3, ![2, 1032, 256]⟩
abbrev S8x5632 : Shape := ⟨2, ![8, 5632]⟩
abbrev S1024x1 : Shape := ⟨2, ![1024, 1]⟩
abbrev S1024x256 : Shape := ⟨2, ![1024, 256]⟩
abbrev S8x256 : Shape := ⟨2, ![8, 256]⟩
abbrev S1x8x256 : Shape := ⟨3, ![1, 8, 256]⟩
abbrev S1x1024x256 : Shape := ⟨3, ![1, 1024, 256]⟩
abbrev S3x256 : Shape := ⟨2, ![3, 256]⟩
abbrev S1x256 : Shape := ⟨2, ![1, 256]⟩
abbrev S1x1032x256 : Shape := ⟨3, ![1, 1032, 256]⟩
abbrev S1032x256 : Shape := ⟨2, ![1032, 256]⟩
abbrev S256x1024 : Shape := ⟨2, ![256, 1024]⟩

abbrev nBuf : Space → Nat
  | .hbm => 18
  | .vmem => 19
  | .smem => 0
  | _ => 0

abbrev bufTy : (tb : Table) → Fin (tcTables nBuf tb) → BufTy
  | .hbm, ⟨0, _⟩ => ⟨S8x4096x1024, .bf16⟩
  | .hbm, ⟨1, _⟩ => ⟨S1024x1024, .f32⟩
  | .hbm, ⟨2, _⟩ => ⟨S1024, .f32⟩
  | .hbm, ⟨3, _⟩ => ⟨S8x4096x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x5632, .bf16⟩
  | .hbm, ⟨14, _⟩ => ⟨S1x5632, .f32⟩
  | .hbm, ⟨15, _⟩ => ⟨S2816x1024, .bf16⟩
  | .hbm, ⟨16, _⟩ => ⟨S1x1024, .f32⟩
  | .hbm, ⟨17, _⟩ => ⟨S8x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .bf16⟩
  | .local _ .vmem, ⟨15, _⟩ => ⟨S1024x1024, .f32⟩
  | .local _ .vmem, ⟨16, _⟩ => ⟨S2x1032x256, .f32⟩
  | .local _ .vmem, ⟨17, _⟩ => ⟨S2x1032x256, .f32⟩
  | .local _ .vmem, ⟨18, _⟩ => ⟨S8x5632, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 113
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S1024x1024, .f32⟩
  | .hbm, ⟨2, _⟩ => ⟨S1024, .f32⟩
  | .hbm, ⟨3, _⟩ => ⟨S8x4096x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x5632, .f32⟩
  | .hbm, ⟨46, _⟩ => ⟨S_, .i32⟩
  | .hbm, ⟨47, _⟩ => ⟨S_, .f32⟩
  | .hbm, ⟨48, _⟩ => ⟨S8x4098x5632, .f32⟩
  | .hbm, ⟨49, _⟩ => ⟨S8x4096x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S8x4096x5632, .f32⟩
  | .hbm, ⟨54, _⟩ => ⟨S8x4096x5632, .f32⟩
  | .hbm, ⟨55, _⟩ => ⟨S_, .f32⟩
  | .hbm, ⟨56, _⟩ => ⟨S8x4096x5632, .f32⟩
  | .hbm, ⟨57, _⟩ => ⟨S8x4096x5632, .f32⟩
  | .hbm, ⟨58, _⟩ => ⟨S8x4096x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S8x4096x5632, .f32⟩
  | .hbm, ⟨63, _⟩ => ⟨S8x4096x5632, .f32⟩
  | .hbm, ⟨64, _⟩ => ⟨S8x4096x5632, .f32⟩
  | .hbm, ⟨65, _⟩ => ⟨S8x4096x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S8x4096x5632, .f32⟩
  | .hbm, ⟨70, _⟩ => ⟨S8x4096x5632, .f32⟩
  | .hbm, ⟨71, _⟩ => ⟨S8x4096x5632, .f32⟩
  | .hbm, ⟨72, _⟩ => ⟨S1x1x5632, .f32⟩
  | .hbm, ⟨73, _⟩ => ⟨S8x4096x5632, .f32⟩
  | .hbm, ⟨74, _⟩ => ⟨S8x4096x5632, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S_, .f32⟩
  | .hbm, ⟨84, _⟩ => ⟨S8x4096x2816, .f32⟩
  | .hbm, ⟨85, _⟩ => ⟨S8x4096x2816, .f32⟩
  | .hbm, ⟨86, _⟩ => ⟨S8x4096x2816, .f32⟩
  | .hbm, ⟨87, _⟩ => ⟨S_, .f32⟩
  | .hbm, ⟨88, _⟩ => ⟨S8x4096x2816, .f32⟩
  | .hbm, ⟨89, _⟩ => ⟨S8x4096x2816, .f32⟩
  | .hbm, ⟨90, _⟩ => ⟨S_, .f32⟩
  | .hbm, ⟨91, _⟩ => ⟨S8x4096x2816, .f32⟩
  | .hbm, ⟨92, _⟩ => ⟨S8x4096x2816, .f32⟩
  | .hbm, ⟨93, _⟩ => ⟨S8x4096x2816, .f32⟩
  | .hbm, ⟨94, _⟩ => ⟨S8x4096x2816, .f32⟩
  | .hbm, ⟨95, _⟩ => ⟨S8x4096x1024, .f32⟩
  | .hbm, ⟨96, _⟩ => ⟨S8x4096x1024, .f32⟩
  | .hbm, ⟨97, _⟩ => ⟨S_, .f32⟩
  | .hbm, ⟨98, _⟩ => ⟨S8x4096, .f32⟩
  | .hbm, ⟨99, _⟩ => ⟨S8x4096x1, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S_, .f32⟩
  | .hbm, ⟨104, _⟩ => ⟨S8x4096x1, .f32⟩
  | .hbm, ⟨105, _⟩ => ⟨S8x4096x1, .f32⟩
  | .hbm, ⟨106, _⟩ => ⟨S8x4096x1, .f32⟩
  | .hbm, ⟨107, _⟩ => ⟨S8x4096x1024, .f32⟩
  | .hbm, ⟨108, _⟩ => ⟨S8x4096x1024, .f32⟩
  | .hbm, ⟨109, _⟩ => ⟨S1x1x1024, .f32⟩
  | .hbm, ⟨110, _⟩ => ⟨S8x4096x1024, .f32⟩
  | .hbm, ⟨111, _⟩ => ⟨S8x4096x1024, .f32⟩
  | .hbm, ⟨112, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Proof.Fox.Body.lean ====
/- The attention tile loop of one grid point as a small command language over named buffers: the
   commands, what they do to the buffers' contents (`Cmd.eval`), the program they stand for
   (`Cmd.prog`), and the loop itself written with them (`fox`). -/
module

public import Idealize.ShloMosaic.Lib.Pipeline
public import Idealize.ShloMosaic.Lib.StableHlo
public import Idealize.ShloMosaic.PureOps
public import Idealize.ShloMosaic.PureOps.Dims

@[expose] public section

noncomputable section

namespace Cert.Fox

open Idealize.ShloMosaic Idealize.SL.Sem

/-- The shape with the given extents, at ranks one to four. -/
abbrev Sh1 (a : ℕ) : Shape := ⟨1, ![a]⟩
/-- Rank two. -/
abbrev Sh2 (a b : ℕ) : Shape := ⟨2, ![a, b]⟩
/-- Rank three. -/
abbrev Sh3 (a b c : ℕ) : Shape := ⟨3, ![a, b, c]⟩
/-- Rank four. -/
abbrev Sh4 (a b c d : ℕ) : Shape := ⟨4, ![a, b, c, d]⟩

/-- The buffers the loop only reads. -/
inductive InK | qt | k | vt | dec | ones | mask
  deriving DecidableEq

namespace InK
/-- The inputs are finitely many. -/
instance : Fintype InK where
  elems := {qt, k, vt, dec, ones, mask}
  complete x := by cases x <;> decide
/-- The shape of an input's block. -/
@[reducible] def shape : InK → Shape
  | qt => Sh3 1 128 4096 | k => Sh3 1 4096 128 | vt => Sh3 1 160 4096
  | dec => Sh3 1 4096 128 | ones => Sh4 1 2 128 512 | mask => Sh2 512 512
/-- Its element type. -/
@[reducible] def elt : InK → EltTy
  | mask => .f32 | _ => .bf16
end InK

/-- The buffers the loop writes: the result's block, the two slots of logits and of their column
    maxima, and per parity and head the running maximum and the accumulator. -/
inductive WK | out | s (b : Bool) | mx (b : Bool) | m (p j : Bool) | a (p j : Bool)
  deriving DecidableEq

namespace WK
/-- The written buffers are finitely many. -/
instance : Fintype WK where
  elems := {out, s false, s true, mx false, mx true, m false false, a false false, m false true, a false true,
    m true false, a true false, m true true, a true true}
  complete x := by
    cases x with
    | out => decide
    | s b => cases b <;> decide
    | mx b => cases b <;> decide
    | m p j => cases p <;> cases j <;> decide
    | a p j => cases p <;> cases j <;> decide
/-- The shape of a written buffer. -/
@[reducible] def shape : WK → Shape
  | out => Sh3 1 4096 128 | s _ => Sh3 2 512 512 | mx _ => Sh3 2 1 512
  | m _ _ => Sh2 1 512 | a _ _ => Sh2 80 512
/-- Its element type. -/
@[reducible] def elt : WK → EltTy
  | out => .bf16 | _ => .f32
end WK

/-- The commands. Each carries the evidence the machine's operation asks for. -/
inductive Cmd (F : FTy → Type) : Type
  | done
  | fetch (x : InK) (r : LoadRect x.shape) (h : 0 < r.shape.numel) (k : (r.shape.Idx → Elt F x.elt) → Cmd F)
  | load (x : WK) (r : LoadRect x.shape) (h : 0 < r.shape.numel) (k : (r.shape.Idx → Elt F x.elt) → Cmd F)
  | store (x : WK) (r : Rect x.shape) (w : r.shape.Idx → Elt F x.elt) (h : 0 < r.shape.numel)
      (hp : x.elt.bits = 32 ∨ r.PackedRows x.elt.packing) (hs : ∀ a, r.stride a = 1) (k : Cmd F)
  | word (k : BitVec 32 → Cmd F)
  | branch (c : Prop) (d : Decidable c) (t k : Cmd F)

variable {F : FTy → Type}

/-- The contents of the inputs. -/
abbrev Ins (F : FTy → Type) := (x : InK) → x.shape.Idx → Elt F x.elt
/-- The contents of the written buffers. -/
abbrev St (F : FTy → Type) := (x : WK) → x.shape.Idx → Elt F x.elt

/-- The contents `f` with the rectangle `r` holding `w`. -/
def over {s : Shape} {α : Type} (r : Rect s) (f : s.Idx → α) (w : r.shape.Idx → α) : s.Idx → α := by
  classical exact fun i => if h : ∃ j, r.emb j = i then w h.choose else f i

/-- Inside the rectangle the contents are what was written. -/
theorem over_emb {s : Shape} {α : Type} (r : Rect s) (f : s.Idx → α) (w : r.shape.Idx → α) (j : r.shape.Idx) :
    over r f w (r.emb j) = w j := by
  have h : ∃ j', r.emb j' = r.emb j := ⟨j, rfl⟩
  unfold over
  rw [dif_pos h]
  exact congrArg w (r.emb.injective h.choose_spec)

/-- Outside the rectangle the contents are the old ones. -/
theorem over_not {s : Shape} {α : Type} (r : Rect s) (f : s.Idx → α) (w : r.shape.Idx → α) {i : s.Idx}
    (h : ∀ j, r.emb j ≠ i) : over r f w i = f i := by
  unfold over
  rw [dif_neg (by rintro ⟨j, hj⟩; exact h j hj)]

/-- The state with buffer `x` replaced. -/
def put (st : St F) (x : WK) (f : x.shape.Idx → Elt F x.elt) : St F := Function.update st x f

/-- The replaced buffer holds what it was given. -/
@[simp] theorem put_self (st : St F) (x : WK) (f : x.shape.Idx → Elt F x.elt) : put st x f x = f := by
  simp [put]

/-- The other buffers hold what they held. -/
theorem put_ne (st : St F) {x y : WK} (f : x.shape.Idx → Elt F x.elt) (h : y ≠ x) : put st x f y = st y := by
  simp [put, h]

namespace Cmd

/-- What running the commands leaves in the written buffers, from the inputs `I` and the word `w`. -/
def eval (I : Ins F) (w : BitVec 32) : Cmd F → St F → St F
  | done, st => st
  | fetch x r _ k, st => eval I w (k fun j => I x (r.idx j)) st
  | load x r _ k, st => eval I w (k fun j => st x (r.idx j)) st
  | store x r v _ _ _ k, st => eval I w k (put st x (over r (st x) v))
  | word k, st => eval I w (k w) st
  | branch _ d t k, st => eval I w k (@ite _ _ d (eval I w t st) st)

variable {nD : ℕ} {τ : Topo} {sig : RefSig} {Λ : Labels}

/-- The word's rectangle. -/
abbrev wordRect : Rect (Sh1 1) := Rect.unit (s := Sh1 1) ![0] (Sh1 1).size (by intro a; fin_cases a; decide)

/-- The program the commands stand for, the buffers being the given memrefs. -/
def prog (one : Memref sig .tc .smem (Sh1 1) .i32)
    (im : (x : InK) → Memref sig .tc .vmem x.shape x.elt)
    (wm : (x : WK) → Memref sig .tc .vmem x.shape x.elt) (hw : ∀ x, (wm x).IsWhole) :
    Cmd F → Prog (TpuEff nD τ sig (Elt F) Λ .tc) PUnit
  | done => .ret ⟨⟩
  | fetch x r h k => .op (.load (im x) r (View.loadsAt_vmem h)) fun v => prog one im wm hw (k v)
  | load x r h k => .op (.load (wm x) r (View.loadsAt_vmem h)) fun v => prog one im wm hw (k v)
  | store x r v h hp hs k => .op (.store (wm x) r v Finset.univ
      (hp.elim (fun e => View.stores_vmem_bits_univ h e)
        fun e => View.stores_vmem h ((hw x).storeExact_slice rfl _ e) (fun _ => rfl)) (.inr hs)) fun _ => prog one im wm hw k
  | word k => smemLoad one wordRect (by decide) rfl >>= fun v => prog one im wm hw (k v)
  | branch _ d t k => @ite _ _ d (prog one im wm hw t >>= fun _ => prog one im wm hw k) (prog one im wm hw k)

end Cmd

/-! ## The loop -/

/-- One tile of logits: row block `v`, key block `t`, `nk` keys of it, the columns from `c0`, `nc`
    of them. `cut` takes those columns of the queries. -/
structure Step (F : FTy → Type) where
  v : ℕ
  t : ℕ
  nk : ℕ
  c0 : ℕ
  nc : ℕ
  cut : FVec F (Sh2 256 512) .bf16 → FVec F (Sh2 256 nc) .bf16
  hv : v < 8
  ht : t ≤ v
  hnk : nk = 256 ∨ nk = 512
  hnc : nc = 256 ∨ nc = 512
  hc : c0 + nc ≤ 512
  hcut : ∀ x j, ∃ j' : (Sh2 256 512).Idx, (j' 0).val = (j 0).val ∧ (j' 1).val = c0 + (j 1).val ∧ cut x j = x j'

section Evidence

/-- A block of one matrix has the matrix's shape, its leading axis dropped. -/
theorem cast3 (a b : ℕ) : (Sh3 1 a b).ShapeCasts (Sh2 a b) := by
  simp [Shape.ShapeCasts, Shape.numel, Fin.prod_univ_succ]
/-- A matrix has the shape of a block of one matrix. -/
theorem cast3' (a b : ℕ) : (Sh2 a b).ShapeCasts (Sh3 1 a b) := (cast3 a b).symm
/-- A matrix has its own shape. -/
theorem cast2 (a b : ℕ) : (Sh2 a b).ShapeCasts (Sh2 a b) := rfl
/-- A row of numbers has the shape of a matrix of one row. -/
theorem cast1 (a : ℕ) : (Sh1 a).ShapeCasts (Sh2 1 a) := by
  simp [Shape.ShapeCasts, Shape.numel, Fin.prod_univ_succ]
/-- A block of one matrix, with two leading axes, has the matrix's shape. -/
theorem cast4 (a b : ℕ) : (Sh4 1 1 a b).ShapeCasts (Sh2 a b) := by
  simp [Shape.ShapeCasts, Shape.numel, Fin.prod_univ_succ]
/-- A matrix with rows and columns isn't empty. -/
theorem numel2 {a b : ℕ} (ha : 0 < a) (hb : 0 < b) : 0 < (Sh2 a b).numel := by
  simp [Shape.numel, Fin.prod_univ_succ, ha, hb]
/-- An array with three nonzero extents isn't empty. -/
theorem numel3 {a b c : ℕ} (ha : 0 < a) (hb : 0 < b) (hc : 0 < c) : 0 < (Sh3 a b c).numel := by
  simp [Shape.numel, Fin.prod_univ_succ, ha, hb, hc]
/-- A head's lane indicators aren't empty. -/
theorem numelO : 0 < (Sh4 1 1 128 512).numel := by decide
/-- A row broadcasts over the rows of a matrix. -/
theorem bcast (a b : ℕ) : (Sh2 1 b).Broadcasts (Sh2 a b) := by
  refine ⟨le_rfl, fun i => ?_⟩
  fin_cases i
  · exact .inl rfl
  · exact .inr fun _ => rfl

/-- A rectangle lies inside a matrix when it does so on each axis. -/
theorem inb2 {A B o0 o1 a b : ℕ} (h0 : o0 + a ≤ A) (h1 : o1 + b ≤ B) :
    ∀ x, (![o0, o1] : Fin 2 → ℕ) x + (![a, b] : Fin 2 → ℕ) x ≤ (Sh2 A B).size x := by
  intro x; fin_cases x
  · exact h0
  · exact h1
/-- A rectangle lies inside an array of three axes when it does so on each. -/
theorem inb3 {A B C o0 o1 o2 a b c : ℕ} (h0 : o0 + a ≤ A) (h1 : o1 + b ≤ B) (h2 : o2 + c ≤ C) :
    ∀ x, (![o0, o1, o2] : Fin 3 → ℕ) x + (![a, b, c] : Fin 3 → ℕ) x ≤ (Sh3 A B C).size x := by
  intro x; fin_cases x
  · exact h0
  · exact h1
  · exact h2
/-- A rectangle lies inside an array of four axes when it does so on each. -/
theorem inb4 {A B C D o0 o1 o2 o3 a b c d : ℕ} (h0 : o0 + a ≤ A) (h1 : o1 + b ≤ B) (h2 : o2 + c ≤ C) (h3 : o3 + d ≤ D) :
    ∀ x, (![o0, o1, o2, o3] : Fin 4 → ℕ) x + (![a, b, c, d] : Fin 4 → ℕ) x ≤ (Sh4 A B C D).size x := by
  intro x; fin_cases x
  · exact h0
  · exact h1
  · exact h2
  · exact h3

/-- A tile's keys and decay lanes, side by side. -/
theorem catK {nk : ℕ} (h : nk = 256 ∨ nk = 512) : Shape.Concatenates [Sh2 nk 128, Sh2 nk 128] (Sh2 nk 256) 1 := by
  rcases h with rfl | rfl <;> decide
/-- A head's queries, its partner's zeros and its lane indicators, one above the other. -/
theorem catQ : Shape.Concatenates [Sh2 64 512, Sh2 64 512, Sh2 128 512] (Sh2 256 512) 0 := by decide
/-- Two heads' results, one above the other. -/
theorem catO : Shape.Concatenates [Sh2 64 512, Sh2 64 512] (Sh2 128 512) 0 := by decide
/-- A tile of logits reduces to its columns. -/
theorem red {nk nc : ℕ} (hk : nk = 256 ∨ nk = 512) (hn : nc = 256 ∨ nc = 512) :
    (Sh2 nk nc).Reduces [0] (Sh1 nc) := by
  rcases hk with rfl | rfl <;> rcases hn with rfl | rfl <;> decide

variable (s : Step F)
/-- A step has keys. -/
theorem Step.nk0 : 0 < s.nk := by have := s.hnk; omega
/-- A step has query columns. -/
theorem Step.nc0 : 0 < s.nc := by have := s.hnc; omega
/-- A step's keys lie within the sequence. -/
theorem Step.tk : s.t * 512 + s.nk ≤ 4096 := by have := s.hnk; have := s.ht; have := s.hv; omega
/-- A step has at most 512 keys. -/
theorem Step.nk512 : s.nk ≤ 512 := by have := s.hnk; omega
/-- A step's row block lies within the sequence. -/
theorem Step.cv : s.v * 512 + 512 ≤ 4096 := by have := s.hv; omega
end Evidence

variable [FloatOps F]

/-- Zero, one 64-row block of it. -/
def zero64 : FVec F (Sh2 64 512) .bf16 := broadcast (Sh2 64 512) (Scalar.ofBits .bf16 0x0000#16 : F .bf16)

/-- The queries of head `j` stacked with zeros for the other head's columns and the ones that
    select the decay columns. -/
def bigQ (j : Bool) (q : FVec F (Sh3 1 64 512) .bf16) (o : FVec F (Sh4 1 1 128 512) .bf16) : FVec F (Sh2 256 512) .bf16 :=
  match j with
  | false => concatenate (Sh2 256 512) 0 [⟨Sh2 64 512, shapeCast (Sh2 64 512) q (cast3 64 512)⟩, ⟨Sh2 64 512, zero64⟩,
      ⟨Sh2 128 512, shapeCast (Sh2 128 512) o (cast4 128 512)⟩] catQ
  | true => concatenate (Sh2 256 512) 0 [⟨Sh2 64 512, zero64⟩, ⟨Sh2 64 512, shapeCast (Sh2 64 512) q (cast3 64 512)⟩,
      ⟨Sh2 128 512, shapeCast (Sh2 128 512) o (cast4 128 512)⟩] catQ

/-- The keys next to the decay columns. -/
def keys (s : Step F) (a b : FVec F (Sh3 1 s.nk 128) .bf16) : FVec F (Sh2 s.nk 256) .bf16 :=
  concatenate (Sh2 s.nk 256) 1 [⟨Sh2 s.nk 128, shapeCast (Sh2 s.nk 128) a (cast3 _ _)⟩,
    ⟨Sh2 s.nk 128, shapeCast (Sh2 s.nk 128) b (cast3 _ _)⟩] (catK s.hnk)

/-- The logits before the mask. -/
def rawLogits (s : Step F) (kc : FVec F (Sh2 s.nk 256) .bf16) (big : FVec F (Sh2 256 512) .bf16) : FVec F (Sh2 s.nk s.nc) .f32 :=
  matmul (DotDims.plain s.nk 256 s.nc) none kc (s.cut big) (constant (Sh2 s.nk s.nc) .f32 0x00000000#32)

/-- The column maxima of a tile of logits. -/
def colMax (s : Step F) (l : FVec F (Sh2 s.nk s.nc) .f32) : FVec F (Sh3 1 1 s.nc) .f32 :=
  shapeCast (Sh3 1 1 s.nc) (shapeCast (Sh2 1 s.nc)
    (multiReduction .maximumf [0] (Sh1 s.nc) l 0xFF800000#32 (red s.hnk s.hnc) (.inl rfl) rfl) (cast1 _)) (cast3' _ _)

namespace Step
variable (s : Step F)
/-- A step's keys lie within their array. -/
theorem inbK : ∀ x, (![0, s.t * 512, 0] : Fin 3 → ℕ) x + (![1, s.nk, 128] : Fin 3 → ℕ) x ≤ (Sh3 1 4096 128).size x :=
  inb3 le_rfl s.tk le_rfl
/-- The rows of the key block. -/
abbrev rK : Rect (Sh3 1 4096 128) := Rect.unit (s := Sh3 1 4096 128) ![0, s.t * 512, 0] ![1, s.nk, 128] s.inbK
/-- A step's mask lies within the mask. -/
theorem inbB : ∀ x, (![0, s.c0] : Fin 2 → ℕ) x + (![s.nk, s.nc] : Fin 2 → ℕ) x ≤ (Sh2 512 512).size x :=
  inb2 (by have := s.nk512; omega) s.hc
/-- The part of the mask. -/
abbrev rB : Rect (Sh2 512 512) := Rect.unit (s := Sh2 512 512) ![0, s.c0] ![s.nk, s.nc] s.inbB
/-- A head's queries of a row block lie within their array. -/
theorem inbQ (j : Bool) : ∀ x, (![0, 64 * j.toNat, s.v * 512] : Fin 3 → ℕ) x + (![1, 64, 512] : Fin 3 → ℕ) x ≤ (Sh3 1 128 4096).size x :=
  inb3 le_rfl (by cases j <;> decide) s.cv
/-- The queries of head `j`, row block `v`. -/
abbrev rQ (j : Bool) : Rect (Sh3 1 128 4096) := Rect.unit (s := Sh3 1 128 4096) ![0, 64 * j.toNat, s.v * 512] ![1, 64, 512] (s.inbQ j)
/-- A step's logits lie within a slot. -/
theorem inbS (j : Bool) : ∀ x, (![j.toNat, 0, s.c0] : Fin 3 → ℕ) x + (![1, s.nk, s.nc] : Fin 3 → ℕ) x ≤ (Sh3 2 512 512).size x :=
  inb3 (by cases j <;> decide) (by have := s.nk512; omega) s.hc
/-- The tile's place in a logits slot. -/
abbrev rS (j : Bool) : Rect (Sh3 2 512 512) := Rect.unit (s := Sh3 2 512 512) ![j.toNat, 0, s.c0] ![1, s.nk, s.nc] (s.inbS j)
/-- A step's column maxima lie within a slot. -/
theorem inbX (j : Bool) : ∀ x, (![j.toNat, 0, s.c0] : Fin 3 → ℕ) x + (![1, 1, s.nc] : Fin 3 → ℕ) x ≤ (Sh3 2 1 512).size x :=
  inb3 (by cases j <;> decide) le_rfl s.hc
/-- Its place in a slot of column maxima. -/
abbrev rX (j : Bool) : Rect (Sh3 2 1 512) := Rect.unit (s := Sh3 2 1 512) ![j.toNat, 0, s.c0] ![1, 1, s.nc] (s.inbX j)
/-- A step's values lie within their array. -/
theorem inbV (j : Bool) : ∀ x, (![0, 80 * j.toNat, s.t * 512] : Fin 3 → ℕ) x + (![1, 80, s.nk] : Fin 3 → ℕ) x ≤ (Sh3 1 160 4096).size x :=
  inb3 le_rfl (by cases j <;> decide) s.tk
/-- The values of head `j` at the tile's keys. -/
abbrev rV (j : Bool) : Rect (Sh3 1 160 4096) := Rect.unit (s := Sh3 1 160 4096) ![0, 80 * j.toNat, s.t * 512] ![1, 80, s.nk] (s.inbV j)
/-- A step's columns lie within the running maxima. -/
theorem inbM : ∀ x, (![0, s.c0] : Fin 2 → ℕ) x + (![1, s.nc] : Fin 2 → ℕ) x ≤ (Sh2 1 512).size x := inb2 le_rfl s.hc
/-- The tile's columns of a running maximum. -/
abbrev rM : Rect (Sh2 1 512) := Rect.unit (s := Sh2 1 512) ![0, s.c0] ![1, s.nc] s.inbM
/-- A step's columns lie within the running sums. -/
theorem inbA : ∀ x, (![0, s.c0] : Fin 2 → ℕ) x + (![80, s.nc] : Fin 2 → ℕ) x ≤ (Sh2 80 512).size x := inb2 le_rfl s.hc
/-- The tile's columns of an accumulator. -/
abbrev rA : Rect (Sh2 80 512) := Rect.unit (s := Sh2 80 512) ![0, s.c0] ![80, s.nc] s.inbA
end Step

/-- A head's lane indicators lie within their array. -/
theorem inbO (j : Bool) : ∀ x, (![0, j.toNat, 0, 0] : Fin 4 → ℕ) x + (![1, 1, 128, 512] : Fin 4 → ℕ) x ≤ (Sh4 1 2 128 512).size x :=
  inb4 le_rfl (by cases j <;> decide) le_rfl le_rfl
/-- The ones of head `j`. -/
abbrev rO (j : Bool) : Rect (Sh4 1 2 128 512) := Rect.unit (s := Sh4 1 2 128 512) ![0, j.toNat, 0, 0] ![1, 1, 128, 512] (inbO j)

/-- The logits of head `j` into a slot. -/
def logitsHead (s : Step F) (slot j : Bool) (kc : FVec F (Sh2 s.nk 256) .bf16)
    (bias : FVec F (Sh2 s.nk s.nc) .f32 → FVec F (Sh2 s.nk s.nc) .f32) (k : Cmd F) : Cmd F :=
  .fetch .qt (s.rQ j).toLoadRect (numel3 one_pos (by decide) (by decide)) fun q =>
  .fetch .ones (rO j).toLoadRect numelO fun o =>
  .load (.s slot) (s.rS j).toLoadRect (numel3 one_pos s.nk0 s.nc0) fun _ =>
  .store (.s slot) (s.rS j) (shapeCast (Sh3 1 s.nk s.nc) (bias (rawLogits s kc (bigQ j q o))) (cast3' _ _))
    (numel3 one_pos s.nk0 s.nc0) (.inl rfl) (fun _ => rfl) <|
  .load (.mx slot) (s.rX j).toLoadRect (numel3 one_pos one_pos s.nc0) fun _ =>
  .store (.mx slot) (s.rX j) (colMax s (bias (rawLogits s kc (bigQ j q o))))
    (numel3 one_pos one_pos s.nc0) (.inl rfl) (fun _ => rfl) k

/-- The logits of both heads, the mask added on the diagonal. -/
def logits (s : Step F) (slot : Bool) (k : Cmd F) : Cmd F :=
  .fetch .k s.rK.toLoadRect (numel3 one_pos s.nk0 (by decide)) fun a =>
  .fetch .dec s.rK.toLoadRect (numel3 one_pos s.nk0 (by decide)) fun b =>
  if s.t = s.v then
    .fetch .mask s.rB.toLoadRect (numel2 s.nk0 s.nc0) fun u =>
    logitsHead s slot false (keys s a b) (fun l => addf l (shapeCast (Sh2 s.nk s.nc) u (cast2 _ _))) <|
    logitsHead s slot true (keys s a b) (fun l => addf l (shapeCast (Sh2 s.nk s.nc) u (cast2 _ _))) k
  else
    logitsHead s slot false (keys s a b) (fun l => l) <| logitsHead s slot true (keys s a b) (fun l => l) k

/-- The values times the weights of a tile whose columns are lowered by `mx`. -/
def weigh (s : Step F) (vv : FVec F (Sh3 1 80 s.nk) .bf16) (l : FVec F (Sh3 1 s.nk s.nc) .f32) (mx : FVec F (Sh2 1 s.nc) .f32) :
    FVec F (Sh2 80 s.nc) .f32 :=
  matmul (DotDims.plain 80 s.nk s.nc) none (shapeCast (Sh2 80 s.nk) vv (cast3 _ _))
    (exp2 (truncf .bf16 (subf (shapeCast (Sh2 s.nk s.nc) l (cast3 _ _)) (broadcastTo (Sh2 s.nk s.nc) mx (bcast _ _))) (by decide)))
    (constant (Sh2 80 s.nc) .f32 0x00000000#32)

/-- The new accumulator: the old one scaled by the change of maximum, plus the tile's. -/
def mix (s : Step F) (mo mn : FVec F (Sh2 1 s.nc) .f32) (ao y : FVec F (Sh2 80 s.nc) .f32) : FVec F (Sh2 80 s.nc) .f32 :=
  addf (mulf (broadcastTo (Sh2 80 s.nc) (exp2 (subf mo mn)) (bcast _ _)) ao) y

/-- The running softmax of head `j` over one tile. -/
def pv (s : Step F) (slot par j : Bool) (k : Cmd F) : Cmd F :=
  .fetch .vt (s.rV j).toLoadRect (numel3 one_pos (by decide) s.nk0) fun vv =>
  .load (.mx slot) (s.rX j).toLoadRect (numel3 one_pos one_pos s.nc0) fun x =>
  if s.t = 0 then
    .load (.s slot) (s.rS j).toLoadRect (numel3 one_pos s.nk0 s.nc0) fun l =>
    .load (.a par j) s.rA.toLoadRect (numel2 (by decide) s.nc0) fun _ =>
    .store (.a par j) s.rA (shapeCast (Sh2 80 s.nc) (weigh s vv l (shapeCast (Sh2 1 s.nc) x (cast3 _ _))) (cast2 _ _))
      (numel2 (by decide) s.nc0) (.inl rfl) (fun _ => rfl) <|
    .load (.m par j) s.rM.toLoadRect (numel2 one_pos s.nc0) fun _ =>
    .store (.m par j) s.rM (shapeCast (Sh2 1 s.nc) (shapeCast (Sh2 1 s.nc) x (cast3 _ _)) (cast2 _ _))
      (numel2 one_pos s.nc0) (.inl rfl) (fun _ => rfl) k
  else
    .load (.m par j) s.rM.toLoadRect (numel2 one_pos s.nc0) fun mo =>
    .load (.s slot) (s.rS j).toLoadRect (numel3 one_pos s.nk0 s.nc0) fun l =>
    .load (.a par j) s.rA.toLoadRect (numel2 (by decide) s.nc0) fun ao =>
    .load (.a par j) s.rA.toLoadRect (numel2 (by decide) s.nc0) fun _ =>
    .store (.a par j) s.rA (shapeCast (Sh2 80 s.nc) (mix s mo (maximumf mo (shapeCast (Sh2 1 s.nc) x (cast3 _ _))) ao
        (weigh s vv l (maximumf mo (shapeCast (Sh2 1 s.nc) x (cast3 _ _))))) (cast2 _ _))
      (numel2 (by decide) s.nc0) (.inl rfl) (fun _ => rfl) <|
    .load (.m par j) s.rM.toLoadRect (numel2 one_pos s.nc0) fun _ =>
    .store (.m par j) s.rM (shapeCast (Sh2 1 s.nc) (maximumf mo (shapeCast (Sh2 1 s.nc) x (cast3 _ _))) (cast2 _ _))
      (numel2 one_pos s.nc0) (.inl rfl) (fun _ => rfl) k

/-- The first 64 rows of an accumulator. -/
abbrev rA64 : Rect (Sh2 80 512) := Rect.unit (s := Sh2 80 512) ![0, 0] ![64, 512] (inb2 (by decide) le_rfl)
/-- Its row 64. -/
abbrev rAsum : Rect (Sh2 80 512) := Rect.unit (s := Sh2 80 512) ![64, 0] ![1, 512] (inb2 (by decide) le_rfl)
/-- The rows of the result of row block `v`. -/
abbrev rOut (v : ℕ) (hv : v < 8) : Rect (Sh3 1 4096 128) :=
  Rect.unit (s := Sh3 1 4096 128) ![0, v * 512, 0] ![1, 512, 128] (inb3 le_rfl (by omega) le_rfl)

/-- The quotients of the two heads, turned and laid side by side. -/
def quotient (o0 : FVec F (Sh2 64 512) .f32) (l0 : FVec F (Sh2 1 512) .f32) (o1 : FVec F (Sh2 64 512) .f32)
    (l1 : FVec F (Sh2 1 512) .f32) : FVec F (Sh3 1 512 128) .bf16 :=
  shapeCast (Sh3 1 512 128) (truncf .bf16 (transpose (Sh2 512 128) [1, 0]
    (concatenate (Sh2 128 512) 0 [⟨Sh2 64 512, divf o0 (broadcastTo (Sh2 64 512) l0 (bcast 64 512))⟩,
      ⟨Sh2 64 512, divf o1 (broadcastTo (Sh2 64 512) l1 (bcast 64 512))⟩] catO) (by decide)) (by decide)) (cast3' 512 128)

/-- The result of row block `v`, written from the accumulators of a parity. -/
def finish (v : ℕ) (hv : v < 8) (hp : (rOut v hv).PackedRows (EltTy.packing .bf16)) (par : Bool) (k : Cmd F) : Cmd F :=
  .load (.a par false) rA64.toLoadRect (numel2 (by decide) (by decide)) fun o0 =>
  .load (.a par false) rAsum.toLoadRect (numel2 (by decide) (by decide)) fun l0 =>
  .load (.a par true) rA64.toLoadRect (numel2 (by decide) (by decide)) fun o1 =>
  .load (.a par true) rAsum.toLoadRect (numel2 (by decide) (by decide)) fun l1 =>
  .load .out (rOut v hv).toLoadRect (numel3 one_pos (by decide) (by decide)) fun _ =>
  .store .out (rOut v hv) (quotient o0 l0 o1 l1) (numel3 one_pos (by decide) (by decide)) (.inr hp) (fun _ => rfl) k

/-- A tile below the diagonal: all its keys and all its columns. -/
def full (v t : ℕ) (hv : v < 8) (ht : t ≤ v) : Step F where
  v := v
  t := t
  nk := 512
  c0 := 0
  nc := 512
  cut x := x
  hv := hv
  ht := ht
  hnk := .inr rfl
  hnc := .inr rfl
  hc := le_rfl
  hcut x j := ⟨j, rfl, (Nat.zero_add _).symm, rfl⟩

/-- Half a tile's query columns are a slice of them. -/
theorem sliceOk (c0 : ℕ) (h : c0 + 256 ≤ 512) : (Sh2 256 512).Slices ![0, c0] (Sh2 256 256) := by
  refine ⟨rfl, fun a => ?_⟩
  fin_cases a
  · exact le_rfl
  · exact h

/-- A half of a tile on the diagonal: 256 columns from `c0`, and the keys up to their end. -/
def half (v nk c0 : ℕ) (hv : v < 8) (hnk : nk = 256 ∨ nk = 512) (hc : c0 + 256 ≤ 512) : Step F where
  v := v
  t := v
  nk := nk
  c0 := c0
  nc := 256
  cut x := extractStridedSlice (Sh2 256 256) ![0, c0] x (sliceOk c0 hc)
  hv := hv
  ht := le_rfl
  hnk := hnk
  hnc := .inl rfl
  hc := hc
  hcut x j := ⟨_, Nat.zero_add _, rfl, rfl⟩

/-- The steps of row block `v`: the tiles below the diagonal, then the diagonal's two halves. -/
def rowSteps (v : ℕ) (hv : v < 8) : List (Step F) :=
  (List.finRange v).map (fun t => full v t.val hv t.isLt.le) ++
    [half v 256 0 hv (.inl rfl) (by decide), half v 512 256 hv (.inr rfl) (by decide)]

/-- Whether a number is odd. -/
def odd (n : ℕ) : Bool := n % 2 == 1

/-- The rows of a result's row block fill whole words. -/
theorem packed (v : ℕ) (hv : v < 8) : (rOut v hv).PackedRows (EltTy.packing .bf16) := by
  refine .inr ⟨(by decide : 2 ≤ 3), rfl, .inl ⟨?_, ?_⟩⟩
  · show 2 ∣ v * 512
    omega
  · show 2 ∣ 512
    decide

/-- The running softmax of a step for both heads, and the result's rows at the row block's end. -/
def stepBody (s : Step F) (slot : Bool) (k : Cmd F) : Cmd F :=
  pv s slot (odd s.v) false <| pv s slot (odd s.v) true <|
    if s.c0 + s.nc = 512 then
      if s.t = s.v then finish s.v s.hv (packed s.v s.hv) (odd s.v) k else k
    else k

/-- `n` steps from the list's head, each after the logits of the one that follows it. `slot` holds
    the logits of the head. -/
def run : ℕ → List (Step F) → Bool → Cmd F
  | 0, _, _ => .done
  | _, [], _ => .done
  | n + 1, [s], slot => stepBody s slot .done
  | n + 1, s :: s' :: l, slot => logits s' (!slot) (stepBody s slot (run n (s' :: l) (!slot)))

/-- The 44 steps. -/
def steps : List (Step F) :=
  rowSteps 0 (by decide) ++ rowSteps 1 (by decide) ++ rowSteps 2 (by decide) ++ rowSteps 3 (by decide) ++
    rowSteps 4 (by decide) ++ rowSteps 5 (by decide) ++ rowSteps 6 (by decide) ++ rowSteps 7 (by decide)

/-- The test both blocks of steps stand under: the word is positive. -/
abbrev test (v : BitVec 32) : Prop :=
  Scalar.cmpi .ne (Scalar.extui (Scalar.cmpi .sgt v 0#32) : BitVec 32) 0#32 = 1#1

/-- The grid point: the first logits, then the steps in two blocks of 22. -/
def fox : Cmd F :=
  logits (half 0 256 0 (by decide) (.inl rfl) (by decide)) false <|
    .word fun w => .branch (test w) inferInstance (run 22 steps false) <|
    .word fun w => .branch (test w) inferInstance (run 22 (steps.drop 22) false) .done

end Cert.Fox
-- ==== Proof.Fox.Sound.lean ====
/- The program a list of commands stands for does to the buffers what `Cmd.eval` says. -/
module

public import proofs.«01_k».proof.Proof.Fox.Body
public import Idealize.ShloMosaic.Lib.Memref
public import Idealize.ShloMosaic.Adequacy
public import Idealize.ShloMosaic.Lib.Pipeline.Regions

@[expose] public section

noncomputable section

namespace Cert.Fox

open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode

variable {nD : ℕ} {τ : Topo} {sig : RefSig} {Ix : Type} [DecidableEq Ix]
variable {Name : Type} [DecidableEq Name] {U : Type} [URA U] {Lvl : Type} [Preorder Lvl] {Λ : Labels}
variable {F : FTy → Type}
local notation "𝕄" => MT nD τ sig Ix (Elt F) Name U Lvl

section Owns

variable (c : Dev nD) {sp : Space} {s : Shape} {e : EltTy} (m : Memref sig .tc sp s e)

/-- Reading through a memref what was written through a rectangle of it. -/
theorem read_write_over (r : Rect s) (f : m.view.ty.Contents (Elt F)) (w : r.shape.Idx → Elt F e) :
    m.view.read (Elt F) ((m.access r).write (Elt F) f w Finset.univ) = over r (m.view.read (Elt F) f) w := by
  funext i
  by_cases h : ∃ j, r.emb j = i
  · obtain ⟨j, rfl⟩ := h
    rw [over_emb]
    exact View.read_write_of_mem (v := m.access r) f w (Finset.mem_univ j)
  · rw [over_not _ _ _ fun j hj => h ⟨j, hj⟩, View.read_apply, View.read_apply]
    congr 1
    refine View.write_of_not_mem (v := m.access r) f w Finset.univ fun hm => ?_
    obtain ⟨j, -, hj⟩ := Finset.mem_map.mp hm
    exact h ⟨j, m.view.emb.injective hj⟩

end Owns

variable (defs : Defs nD τ sig (Elt F) Λ) (𝒱 : Variants) (c : Dev nD) (bd : Option 𝒱.V)
  {Γ : PendingWaitsCtx sig Ix} (E : Set Name)
  (one : Memref sig .tc .smem (Sh1 1) .i32)
  (im : (x : InK) → Memref sig .tc .vmem x.shape x.elt)
  (wm : (x : WK) → Memref sig .tc .vmem x.shape x.elt) (hw : ∀ x, (wm x).IsWhole)

/-- The inputs held at their contents. -/
def heldIns (I : Ins F) : sProp 𝕄 := bigSep Finset.univ fun x => owns (c : Thread nD τ) (im x) fullShare (I x)
/-- The written buffers held at theirs. -/
def heldSt (st : St F) : sProp 𝕄 := bigSep Finset.univ fun x => owns (c : Thread nD τ) (wm x) fullShare (st x)
/-- The word's buffer held at `w`. -/
def heldWord (w : BitVec 32) : sProp 𝕄 := owns (c : Thread nD τ) one fullShare (fun _ => w)

/-- A product over a finite type with one factor taken out. -/
theorem split_one {I : Type} [Fintype I] [DecidableEq I] (i : I) {Φ : I → sProp 𝕄} :
    bigSep Finset.univ Φ = iprop(Φ i ∗ bigSep (Finset.univ.erase i) Φ) := bigSep_univ_split i

/-- One load, whatever the buffer is. -/
theorem load_owned {cs : CoreSpace} {s : Shape} {e : EltTy} (m : Memref sig .tc cs s e) (r : LoadRect s) (hl : m.view.LoadsAt r) (X : s.Idx → Elt F e)
    (k : (r.shape.Idx → Elt F e) → Prog (TpuEff nD τ sig (Elt F) Λ .tc) PUnit) (Q : PUnit → sProp 𝕄) :
    iprop(owns (c : Thread nD τ) m fullShare X
        ∗ (owns (c : Thread nD τ) m fullShare X -∗ wp frame (wpE' defs 𝒱 (c : Thread nD τ) bd Γ) E (k fun j => X (r.idx j)) Q))
      ⊢ wp frame (wpE' defs 𝒱 (c : Thread nD τ) bd Γ) E (.op (.load m r hl) k) Q := by
  unfold owns
  iintro ⟨⟨%f, %hf, Hx⟩, Hk⟩
  iapply (wp_load 𝒱 (c : Thread nD τ) bd E (m := m) (r := r) (S := m.view.set) (View.setOn_subset_set _ _)) $$ Hx
  iintro Hx
  have he : m.view.readAt (Elt F) r f = fun j => X (r.idx j) := by
    funext j; rw [View.readAt_apply, hf]
  rw [he]
  iapply Hk
  iexists f
  isplitr
  · ipureintro; exact hf
  · iexact Hx

/-- One store. -/
theorem store_owned {s : Shape} {e : EltTy} (m : Memref sig .tc .vmem s e) (r : Rect s) (w : r.shape.Idx → Elt F e)
    (hx : (m.access r).Stores Finset.univ) (hm) (X : s.Idx → Elt F e)
    (k : PUnit → Prog (TpuEff nD τ sig (Elt F) Λ .tc) PUnit) (Q : PUnit → sProp 𝕄) :
    iprop(owns (c : Thread nD τ) m fullShare X
        ∗ (owns (c : Thread nD τ) m fullShare (over r X w) -∗ wp frame (wpE' defs 𝒱 (c : Thread nD τ) bd Γ) E (k ⟨⟩) Q))
      ⊢ wp frame (wpE' defs 𝒱 (c : Thread nD τ) bd Γ) E (.op (.store m r w Finset.univ hx hm) k) Q := by
  unfold owns
  iintro ⟨⟨%f, %hf, Hx⟩, Hk⟩
  iapply (wp_store 𝒱 (c : Thread nD τ) bd E (m := m) (r := r) (S := m.view.set) (by
    intro i hi
    obtain ⟨j, -, hj⟩ := Finset.mem_map.mp hi
    exact Finset.mem_map.mpr ⟨r.emb j, Finset.mem_univ _, hj⟩)) $$ Hx
  iintro Hx
  iapply Hk
  iexists ((m.access r).write (Elt F) f w Finset.univ)
  isplitr
  · ipureintro; rw [read_write_over, hf]
  · iexact Hx

/-- The word's load. -/
theorem word_owned (w : BitVec 32) (r : Rect (Sh1 1)) (h1 : r.shape.numel = 1)
    (k : BitVec 32 → Prog (TpuEff nD τ sig (Elt F) Λ .tc) PUnit) (Q : PUnit → sProp 𝕄) :
    iprop(heldWord c one w ∗ (heldWord c one w -∗ wp frame (wpE' defs 𝒱 (c : Thread nD τ) bd Γ) E (k w) Q))
      ⊢ wp frame (wpE' defs 𝒱 (c : Thread nD τ) bd Γ) E (smemLoad one r h1 rfl >>= k) Q :=
  load_owned defs 𝒱 c bd E one r.toLoadRect _ (fun _ => w) (fun f => k (f (Shape.Idx.first (h1.symm ▸ Nat.one_pos)))) Q

/-- Running the commands' program from the inputs `I`, the word `w` and the buffers at `st` leaves the
    buffers at `eval I w cmd st`. -/
theorem sound (I : Ins F) (w : BitVec 32) (cmd : Cmd F) : ∀ (st : St F) (Q : PUnit → sProp 𝕄),
    iprop(heldWord c one w ∗ heldIns c im I ∗ heldSt c wm st
        ∗ (iprop(heldWord c one w ∗ heldIns c im I ∗ heldSt c wm (cmd.eval I w st)) -∗ Q ⟨⟩))
      ⊢ wp frame (wpE' defs 𝒱 (c : Thread nD τ) bd Γ) E (cmd.prog one im wm hw) Q := by
  induction cmd with
  | done =>
    intro st Q
    rw [Cmd.prog, Cmd.eval, wp_ret]
    iintro ⟨Ho, Hi, Hs, Hk⟩
    imodintro
    iapply Hk
    isplitl [Ho]; · iexact Ho
    isplitl [Hi]; · iexact Hi
    iexact Hs
  | fetch x r h k ih =>
    intro st Q
    have ih' := ih (fun j => I x (r.idx j)) st Q
    rw [Cmd.prog, Cmd.eval]
    simp only [heldIns] at ih' ⊢
    rw [split_one x] at ih' ⊢
    iintro ⟨Ho, ⟨Hx, Hr⟩, Hs, Hk⟩
    iapply (load_owned defs 𝒱 c bd E (im x) r _ (I x) _ Q)
    isplitl [Hx]; · iexact Hx
    iintro Hx
    iapply ih'
    isplitl [Ho]; · iexact Ho
    isplitl [Hx Hr]
    · isplitl [Hx]; · iexact Hx
      iexact Hr
    isplitl [Hs]; · iexact Hs
    iexact Hk
  | load x r h k ih =>
    intro st Q
    have ih' := ih (fun j => st x (r.idx j)) st Q
    rw [Cmd.prog, Cmd.eval]
    simp only [heldSt] at ih' ⊢
    rw [split_one x (Φ := fun x => owns (c : Thread nD τ) (wm x) fullShare (st x))] at ih' ⊢
    iintro ⟨Ho, Hi, ⟨Hx, Hr⟩, Hk⟩
    iapply (load_owned defs 𝒱 c bd E (wm x) r _ (st x) _ Q)
    isplitl [Hx]; · iexact Hx
    iintro Hx
    iapply ih'
    isplitl [Ho]; · iexact Ho
    isplitl [Hi]; · iexact Hi
    isplitl [Hx Hr]
    · isplitl [Hx]; · iexact Hx
      iexact Hr
    iexact Hk
  | store x r v h hp hs k ih =>
    intro st Q
    have ih' := ih (put st x (over r (st x) v)) Q
    rw [Cmd.prog, Cmd.eval]
    simp only [heldSt] at ih' ⊢
    have hrest : bigSep (Finset.univ.erase x) (fun y => (owns (c : Thread nD τ) (wm y) fullShare (put st x (over r (st x) v) y) : sProp 𝕄))
        = bigSep (Finset.univ.erase x) fun y => owns (c : Thread nD τ) (wm y) fullShare (st y) :=
      bigSep_congr fun y hy => by rw [put_ne st _ (Finset.ne_of_mem_erase hy)]
    rw [split_one x (Φ := fun y => owns (c : Thread nD τ) (wm y) fullShare (put st x (over r (st x) v) y)), hrest, put_self] at ih'
    rw [split_one x (Φ := fun x => owns (c : Thread nD τ) (wm x) fullShare (st x))]
    iintro ⟨Ho, Hi, ⟨Hx, Hr⟩, Hk⟩
    iapply (store_owned defs 𝒱 c bd E (wm x) r v _ _ (st x) _ Q)
    isplitl [Hx]; · iexact Hx
    iintro Hx
    iapply ih'
    isplitl [Ho]; · iexact Ho
    isplitl [Hi]; · iexact Hi
    isplitl [Hx Hr]
    · isplitl [Hx]; · iexact Hx
      iexact Hr
    iexact Hk
  | word k ih =>
    intro st Q
    have ih' := ih w st Q
    rw [Cmd.prog, Cmd.eval]
    iintro ⟨Ho, Hi, Hs, Hk⟩
    iapply (word_owned defs 𝒱 c bd E one w _ _ _ Q)
    isplitl [Ho]; · iexact Ho
    iintro Ho
    iapply ih'
    isplitl [Ho]; · iexact Ho
    isplitl [Hi]; · iexact Hi
    isplitl [Hs]; · iexact Hs
    iexact Hk
  | branch p d t k iht ihk =>
    intro st Q
    rw [Cmd.prog, Cmd.eval]
    by_cases hp : p
    · rw [if_pos hp, if_pos hp, wp_bind]
      iintro ⟨Ho, Hi, Hs, Hk⟩
      iapply (iht st _)
      isplitl [Ho]; · iexact Ho
      isplitl [Hi]; · iexact Hi
      isplitl [Hs]; · iexact Hs
      iintro ⟨Ho, Hi, Hs⟩
      iapply (ihk _ Q)
      isplitl [Ho]; · iexact Ho
      isplitl [Hi]; · iexact Hi
      isplitl [Hs]; · iexact Hs
      iexact Hk
    · rw [if_neg hp, if_neg hp]
      exact ihk st Q

end Cert.Fox
-- ==== Proof.Fox.Model.lean ====
/- What the tile loop leaves in the result's block, as a fold over the 44 steps that no longer
   mentions the logits' slots, the parities or what the buffers held before. -/
module

public import proofs.«01_k».proof.Proof.Fox.Body

@[expose] public section

noncomputable section

namespace Cert.Fox

open Idealize.ShloMosaic Idealize.SL.Sem

variable {F : FTy → Type}

/-- The part of `f` under a rectangle. -/
abbrev rd {s : Shape} {α : Type} (f : s.Idx → α) (r : LoadRect s) : r.shape.Idx → α := fun y => f (r.idx y)

/-- A rectangle just written reads back as written. -/
theorem rd_over {s : Shape} {α : Type} (r : Rect s) (f : s.Idx → α) (w : r.shape.Idx → α) : rd (over r f w) r.toLoadRect = w :=
  funext fun y => over_emb r f w y

/-- A rectangle apart from the one written reads as before. -/
theorem rd_over_disjoint {s : Shape} {α : Type} (r r' : Rect s) (f : s.Idx → α) (w : r.shape.Idx → α)
    (a : Fin s.rank) (h : ∀ y y', (r.emb y a : ℕ) ≠ r'.emb y' a) : rd (over r f w) r'.toLoadRect = rd f r'.toLoadRect :=
  funext fun y' => over_not r f w fun y hy => h y y' (by rw [hy]; rfl)

/-- Two overwritten contents agree where the old ones do off the rectangle. -/
theorem over_agree {s : Shape} {α : Type} (r : Rect s) {f g : s.Idx → α} (w : r.shape.Idx → α) {i : s.Idx}
    (h : (∀ y, r.emb y ≠ i) → f i = g i) : over r f w i = over r g w i := by
  by_cases hi : ∃ y, r.emb y = i
  · obtain ⟨y, rfl⟩ := hi
    rw [over_emb, over_emb]
  · have hi' : ∀ y, r.emb y ≠ i := fun y hy => hi ⟨y, hy⟩
    rw [over_not _ _ _ hi', over_not _ _ _ hi', h hi']

/-- An index whose coordinates lie in a unit rectangle is under it. -/
theorem exists_emb {s : Shape} (off size : Fin s.rank → ℕ) (inb) (i : s.Idx)
    (h : ∀ a, off a ≤ i a ∧ (i a : ℕ) < off a + size a) : ∃ y, (Rect.unit (s := s) off size inb).emb y = i := by
  refine LoadRect.exists_idx_of_mem (Rect.unit (s := s) off size inb).toLoadRect ((LoadRect.mem_set _).mpr fun a => ⟨i a - off a, ?_, ?_⟩)
  · have := h a; show (i a : ℕ) - off a < size a; omega
  · have := h a; show (i a : ℕ) = off a + 1 * (i a - off a); omega

variable [FloatOps F] (I : Ins F)

/-- The logits of a step, head `j`. -/
def tile (s : Step F) (j : Bool) : FVec F (Sh2 s.nk s.nc) .f32 :=
  let l := rawLogits s (keys s (rd (I .k) s.rK.toLoadRect) (rd (I .dec) s.rK.toLoadRect))
    (bigQ j (rd (I .qt) (s.rQ j).toLoadRect) (rd (I .ones) (rO j).toLoadRect))
  if s.t = s.v then addf l (shapeCast (Sh2 s.nk s.nc) (rd (I .mask) s.rB.toLoadRect) (cast2 _ _)) else l

/-- The logits as a slot holds them. -/
def tileS (s : Step F) (j : Bool) : FVec F (Sh3 1 s.nk s.nc) .f32 := shapeCast (Sh3 1 s.nk s.nc) (tile I s j) (cast3' _ _)
/-- Their column maxima as a slot holds them. -/
def tileX (s : Step F) (j : Bool) : FVec F (Sh3 1 1 s.nc) .f32 := colMax s (tile I s j)
/-- Their column maxima as a row. -/
def tileM (s : Step F) (j : Bool) : FVec F (Sh2 1 s.nc) .f32 := shapeCast (Sh2 1 s.nc) (tileX I s j) (cast3 _ _)

/-- The running maximum and the accumulator of one head. -/
abbrev MA (F : FTy → Type) := ((Sh2 1 512).Idx → Elt F .f32) × ((Sh2 80 512).Idx → Elt F .f32)

/-- The new running maximum of the step's columns, from the old one. -/
def newM (s : Step F) (j : Bool) (M : (Sh2 1 512).Idx → Elt F .f32) : FVec F (Sh2 1 s.nc) .f32 :=
  if s.t = 0 then tileM I s j else maximumf (F := F) (φ := .f32) (rd M s.rM.toLoadRect) (tileM I s j)

/-- The new accumulator of the step's columns. -/
def newA (s : Step F) (j : Bool) (ma : MA F) : FVec F (Sh2 80 s.nc) .f32 :=
  if s.t = 0 then weigh s (rd (I .vt) (s.rV j).toLoadRect) (tileS I s j) (tileM I s j)
  else mix s (rd ma.1 s.rM.toLoadRect) (newM I s j ma.1) (rd ma.2 s.rA.toLoadRect)
    (weigh s (rd (I .vt) (s.rV j).toLoadRect) (tileS I s j) (newM I s j ma.1))

/-- One step of the running softmax. -/
def stepMA (s : Step F) (j : Bool) (ma : MA F) : MA F :=
  (over s.rM ma.1 (shapeCast (Sh2 1 s.nc) (newM I s j ma.1) (cast2 _ _)),
   over s.rA ma.2 (shapeCast (Sh2 80 s.nc) (newA I s j ma) (cast2 _ _)))

/-- The loop's state without slots and parities: the result's block and both heads' running state. -/
abbrev Abs (F : FTy → Type) := ((Sh3 1 4096 128).Idx → Elt F .bf16) × (Bool → MA F)

/-- The step is its row block's last. -/
def Last (s : Step F) : Prop := s.t = s.v ∧ s.c0 + s.nc = 512

/-- Whether a step is its row block's last can be decided. -/
instance (s : Step F) : Decidable (Last s) := by unfold Last; infer_instance

/-- The quotient of the two heads' running states. -/
def rowOut (h : Bool → MA F) : FVec F (Sh3 1 512 128) .bf16 :=
  quotient (rd (h false).2 rA64.toLoadRect) (rd (h false).2 rAsum.toLoadRect) (rd (h true).2 rA64.toLoadRect) (rd (h true).2 rAsum.toLoadRect)

/-- One step of the loop. -/
def absStep (x : Abs F) (s : Step F) : Abs F :=
  let h : Bool → MA F := fun j => stepMA I s j (x.2 j)
  (if Last s then over (rOut s.v s.hv) x.1 (rowOut h) else x.1, h)

/-! ## The commands' effect -/

/-- The state after a step's logits went into a slot. -/
def logitsSt (s : Step F) (slot : Bool) (st : St F) : St F :=
  let s1 := put st (.s slot) (over (s.rS false) (st (.s slot)) (tileS I s false))
  let s2 := put s1 (.mx slot) (over (s.rX false) (s1 (.mx slot)) (tileX I s false))
  let s3 := put s2 (.s slot) (over (s.rS true) (s2 (.s slot)) (tileS I s true))
  put s3 (.mx slot) (over (s.rX true) (s3 (.mx slot)) (tileX I s true))

/-- The commands of a step's logits leave the state described. -/
theorem eval_logits (w : BitVec 32) (s : Step F) (slot : Bool) (k : Cmd F) (st : St F) :
    (logits s slot k).eval I w st = k.eval I w (logitsSt I s slot st) := by
  by_cases h : s.t = s.v
  · simp only [logits, Cmd.eval, if_pos h, logitsHead, logitsSt, tileS, tileX, tile]
  · simp only [logits, Cmd.eval, if_neg h, logitsHead, logitsSt, tileS, tileX, tile]

/-- A slot holds a step's logits and their column maxima. -/
def Good (slot : Bool) (s : Step F) (st : St F) : Prop :=
  ∀ j, rd (st (.s slot)) (s.rS j).toLoadRect = tileS I s j ∧ rd (st (.mx slot)) (s.rX j).toLoadRect = tileX I s j

/-- After those commands the slot holds the step's logits. -/
theorem good_logits (s : Step F) (slot : Bool) (st : St F) : Good I slot s (logitsSt I s slot st) := by
  have hS : ∀ y y', ((s.rS true).emb y 0 : ℕ) ≠ (s.rS false).emb y' 0 := by
    intro y y'
    have h0 : (y 0 : ℕ) < 1 := (y 0).isLt
    have h0' : (y' 0 : ℕ) < 1 := (y' 0).isLt
    show 1 + 1 * (y 0 : ℕ) ≠ 0 + 1 * (y' 0 : ℕ)
    omega
  have hX : ∀ y y', ((s.rX true).emb y 0 : ℕ) ≠ (s.rX false).emb y' 0 := by
    intro y y'
    have h0 : (y 0 : ℕ) < 1 := (y 0).isLt
    have h0' : (y' 0 : ℕ) < 1 := (y' 0).isLt
    show 1 + 1 * (y 0 : ℕ) ≠ 0 + 1 * (y' 0 : ℕ)
    omega
  intro j
  have e1 : logitsSt I s slot st (.s slot) = over (s.rS true) (over (s.rS false) (st (.s slot)) (tileS I s false)) (tileS I s true) := by
    simp [logitsSt, put]
  have e2 : logitsSt I s slot st (.mx slot) = over (s.rX true) (over (s.rX false) (st (.mx slot)) (tileX I s false)) (tileX I s true) := by
    simp [logitsSt, put]
  rw [e1, e2]
  cases j
  · rw [rd_over_disjoint (s.rS true) (s.rS false) _ _ 0 hS, rd_over_disjoint (s.rX true) (s.rX false) _ _ 0 hX]
    exact ⟨rd_over _ _ _, rd_over _ _ _⟩
  · exact ⟨rd_over _ _ _, rd_over _ _ _⟩

/-- A step's logits leave the other buffers alone. -/
theorem logitsSt_other (s : Step F) (slot : Bool) (st : St F) (x : WK) (h1 : x ≠ .s slot) (h2 : x ≠ .mx slot) :
    logitsSt I s slot st x = st x := by
  simp [logitsSt, put, h1, h2]

/-- The state after one head's running softmax. -/
def pvSt (s : Step F) (par j : Bool) (st : St F) : St F :=
  let ma := stepMA I s j (st (.m par j), st (.a par j))
  put (put st (.a par j) ma.2) (.m par j) ma.1

/-- The commands of a head's running softmax leave the state described. -/
theorem eval_pv (w : BitVec 32) (s : Step F) (slot par j : Bool) (k : Cmd F) (st : St F) (h : Good I slot s st) :
    (pv s slot par j k).eval I w st = k.eval I w (pvSt I s par j st) := by
  obtain ⟨h1, h2⟩ := h j
  by_cases h0 : s.t = 0
  · simp only [pv, Cmd.eval, if_pos h0]
    simp only [pvSt, stepMA, newM, newA, if_pos h0, tileM, ← h1, ← h2]
    rw [put_ne _ _ (by simp : (WK.m par j) ≠ .a par j)]
  · simp only [pv, Cmd.eval, if_neg h0]
    simp only [pvSt, stepMA, newM, newA, if_neg h0, tileM, ← h1, ← h2]
    rw [put_ne _ _ (by simp : (WK.m par j) ≠ .a par j)]

/-- A head's running softmax leaves the other buffers alone. -/
theorem pvSt_other (s : Step F) (par j : Bool) (st : St F) (x : WK) (h1 : x ≠ .m par j) (h2 : x ≠ .a par j) :
    pvSt I s par j st x = st x := by
  simp [pvSt, put, h1, h2]

/-- The state after the row block's result is written. -/
def finishSt (v : ℕ) (hv : v < 8) (par : Bool) (st : St F) : St F :=
  put st .out (over (rOut v hv) (st .out) (rowOut fun j => (st (.m par j), st (.a par j))))

/-- The commands of a row block's result leave the state described. -/
theorem eval_finish (w : BitVec 32) (v : ℕ) (hv : v < 8) (hp) (par : Bool) (k : Cmd F) (st : St F) :
    (finish v hv hp par k).eval I w st = k.eval I w (finishSt v hv par st) := rfl

/-- The state after a step. -/
def bodySt (s : Step F) (st : St F) : St F :=
  let s1 := pvSt I s (odd s.v) true (pvSt I s (odd s.v) false st)
  if Last s then finishSt s.v s.hv (odd s.v) s1 else s1

/-- The commands of a step leave the state described. -/
theorem eval_body (w : BitVec 32) (s : Step F) (slot : Bool) (k : Cmd F) (st : St F) (h : Good I slot s st) :
    (stepBody s slot k).eval I w st = k.eval I w (bodySt I s st) := by
  have h' : Good I slot s (pvSt I s (odd s.v) false st) := fun j => by
    rw [pvSt_other I s _ _ st _ (by simp) (by simp), pvSt_other I s _ _ st _ (by simp) (by simp)]
    exact h j
  rw [stepBody, eval_pv I w s slot _ _ _ _ h, eval_pv I w s slot _ _ _ _ h', bodySt]
  by_cases h1 : s.c0 + s.nc = 512
  · by_cases h2 : s.t = s.v
    · have hl : Last s := ⟨h2, h1⟩
      simp only [h1, h2, hl, if_true, eval_finish]
    · have hl : ¬ Last s := fun hl => h2 hl.1
      simp only [h1, h2, hl, if_true, if_false]
  · have hl : ¬ Last s := fun hl => h1 hl.2
    simp only [h1, hl, if_false]

/-! ## The buffers against the fold -/

/-- The columns whose running state a step may read. -/
def cov (s : Step F) (col : ℕ) : Prop := 0 < s.t ∨ col < s.c0

/-- The buffers hold the fold's state where it is read later: the rows already written and the
    columns already begun. -/
def Rel (s : Step F) (st : St F) (x : Abs F) : Prop :=
  (∀ i : (Sh3 1 4096 128).Idx, (i 1 : ℕ) < 512 * s.v → st .out i = x.1 i)
    ∧ ∀ j, (∀ i : (Sh2 1 512).Idx, cov s (i 1) → st (.m (odd s.v) j) i = (x.2 j).1 i)
      ∧ (∀ i : (Sh2 80 512).Idx, cov s (i 1) → st (.a (odd s.v) j) i = (x.2 j).2 i)

/-- What a step hands to the next. -/
def Follows (s s' : Step F) : Prop :=
  (s'.v = s.v ∧ ¬ Last s ∧ (0 < s.t ∨ (s.c0 = 0 ∧ (s.nc = 512 ∨ (s'.t = 0 ∧ s'.c0 = 256 ∧ s.nc = 256)))))
    ∨ (s'.v = s.v + 1 ∧ s'.t = 0 ∧ s'.c0 = 0 ∧ Last s)

/-- The running state after a step, on the columns covered before it or by it. -/
theorem stepMA_agree (s : Step F) (j : Bool) (a b : MA F)
    (h1 : ∀ i : (Sh2 1 512).Idx, cov s (i 1) → a.1 i = b.1 i) (h2 : ∀ i : (Sh2 80 512).Idx, cov s (i 1) → a.2 i = b.2 i) :
    (∀ i : (Sh2 1 512).Idx, (cov s (i 1) ∨ (s.c0 ≤ i 1 ∧ (i 1 : ℕ) < s.c0 + s.nc)) → (stepMA I s j a).1 i = (stepMA I s j b).1 i)
      ∧ (∀ i : (Sh2 80 512).Idx, (cov s (i 1) ∨ (s.c0 ≤ i 1 ∧ (i 1 : ℕ) < s.c0 + s.nc)) → (stepMA I s j a).2 i = (stepMA I s j b).2 i) := by
  by_cases h0 : s.t = 0
  · have e1 : newM I s j a.1 = newM I s j b.1 := by rw [newM, newM, if_pos h0, if_pos h0]
    have e2 : newA I s j a = newA I s j b := by rw [newA, newA, if_pos h0, if_pos h0]
    constructor
    · intro i hi
      simp only [stepMA, e1]
      refine over_agree s.rM _ fun hn => h1 i (hi.resolve_right fun hc => ?_)
      obtain ⟨y, hy⟩ := exists_emb _ _ s.inbM i (by
        intro x; fin_cases x
        · exact ⟨Nat.zero_le _, (i 0).isLt⟩
        · exact hc)
      exact hn y hy
    · intro i hi
      simp only [stepMA, e2]
      refine over_agree s.rA _ fun hn => h2 i (hi.resolve_right fun hc => ?_)
      obtain ⟨y, hy⟩ := exists_emb _ _ s.inbA i (by
        intro x; fin_cases x
        · exact ⟨Nat.zero_le _, by have : (i 0 : ℕ) < 80 := (i 0).isLt; show (i 0 : ℕ) < 0 + 80; omega⟩
        · exact hc)
      exact hn y hy
  · have hc : ∀ col, cov s col := fun col => .inl (Nat.pos_of_ne_zero h0)
    have : a = b := Prod.ext (funext fun i => h1 i (hc _)) (funext fun i => h2 i (hc _))
    subst this
    exact ⟨fun _ _ => rfl, fun _ _ => rfl⟩

/-- One step keeps the buffers and the fold together; a row block's end leaves its rows equal. -/
theorem rel_body (s : Step F) (st : St F) (x : Abs F) (h : Rel s st x) :
    (∀ i : (Sh3 1 4096 128).Idx, ((i 1 : ℕ) < 512 * s.v ∨ (Last s ∧ (i 1 : ℕ) < 512 * s.v + 512)) → bodySt I s st .out i = (absStep I x s).1 i)
    ∧ ∀ j, (∀ i : (Sh2 1 512).Idx, (cov s (i 1) ∨ (s.c0 ≤ i 1 ∧ (i 1 : ℕ) < s.c0 + s.nc)) →
          bodySt I s st (.m (odd s.v) j) i = ((absStep I x s).2 j).1 i)
      ∧ (∀ i : (Sh2 80 512).Idx, (cov s (i 1) ∨ (s.c0 ≤ i 1 ∧ (i 1 : ℕ) < s.c0 + s.nc)) →
          bodySt I s st (.a (odd s.v) j) i = ((absStep I x s).2 j).2 i) := by
  obtain ⟨ho, hj⟩ := h
  set s1 := pvSt I s (odd s.v) true (pvSt I s (odd s.v) false st) with hs1
  have hm : ∀ j, s1 (.m (odd s.v) j) = (stepMA I s j (st (.m (odd s.v) j), st (.a (odd s.v) j))).1
      ∧ s1 (.a (odd s.v) j) = (stepMA I s j (st (.m (odd s.v) j), st (.a (odd s.v) j))).2 := by
    intro j
    cases j
    · rw [hs1, pvSt_other I s _ true _ _ (by simp) (by simp), pvSt_other I s _ true _ _ (by simp) (by simp)]
      constructor
      · simp [pvSt]
      · rw [pvSt, put_ne _ _ (by simp), put_self]
    · have e : ∀ y, y ≠ WK.m (odd s.v) false → y ≠ WK.a (odd s.v) false → pvSt I s (odd s.v) false st y = st y :=
        fun y => pvSt_other I s _ false st y
      rw [hs1]
      constructor
      · rw [pvSt]; simp only [put_self]; rw [e _ (by simp) (by simp), e _ (by simp) (by simp)]
      · rw [pvSt, put_ne _ _ (by simp), put_self, e _ (by simp) (by simp), e _ (by simp) (by simp)]
  have hout : s1 .out = st .out := by
    rw [hs1, pvSt_other I s _ _ _ _ (by simp) (by simp), pvSt_other I s _ _ _ _ (by simp) (by simp)]
  have hag := fun j => stepMA_agree I s j (st (.m (odd s.v) j), st (.a (odd s.v) j)) (x.2 j) (hj j).1 (hj j).2
  have hb : ∀ y, y ≠ WK.out → bodySt I s st y = s1 y := by
    intro y hy
    rw [bodySt]
    by_cases hl : Last s
    · rw [if_pos hl, finishSt, put_ne _ _ hy]
    · rw [if_neg hl]
  refine ⟨fun i hi => ?_, fun j => ⟨fun i hi => ?_, fun i hi => ?_⟩⟩
  · by_cases hl : Last s
    · have hall : ∀ col : ℕ, col < 512 → (cov s col ∨ (s.c0 ≤ col ∧ col < s.c0 + s.nc)) := by
        intro col hc
        have := hl.2
        rcases lt_or_ge col s.c0 with h | h
        · exact .inl (.inr h)
        · exact .inr ⟨h, by omega⟩
      have hA : ∀ j, s1 (.a (odd s.v) j) = ((absStep I x s).2 j).2 := fun j => by
        rw [(hm j).2]; exact funext fun i => (hag j).2 i (hall _ (i 1).isLt)
      have hM : ∀ j, s1 (.m (odd s.v) j) = ((absStep I x s).2 j).1 := fun j => by
        rw [(hm j).1]; exact funext fun i => (hag j).1 i (hall _ (i 1).isLt)
      have e1 : bodySt I s st .out = over (rOut s.v s.hv) (st .out) (rowOut fun j => (s1 (.m (odd s.v) j), s1 (.a (odd s.v) j))) := by
        rw [bodySt, if_pos hl, finishSt, put_self, ← hs1, hout]
      have e2 : (absStep I x s).1 = over (rOut s.v s.hv) x.1 (rowOut (absStep I x s).2) := by
        simp only [absStep, if_pos hl]
      have e3 : (fun j => (s1 (.m (odd s.v) j), s1 (.a (odd s.v) j))) = (absStep I x s).2 :=
        funext fun j => Prod.ext (hM j) (hA j)
      rw [e1, e2, e3]
      refine over_agree _ _ fun hn => ho i ?_
      by_contra hlt
      obtain ⟨y, hy⟩ := exists_emb ![0, s.v * 512, 0] ![1, 512, 128] (inb3 le_rfl (by have := s.hv; omega) le_rfl) i (by
        intro a; fin_cases a
        · exact ⟨Nat.zero_le _, (i 0).isLt⟩
        · show s.v * 512 ≤ (i 1 : ℕ) ∧ (i 1 : ℕ) < s.v * 512 + 512
          rcases hi with h | ⟨-, h⟩ <;> omega
        · exact ⟨Nat.zero_le _, by have : (i 2 : ℕ) < 128 := (i 2).isLt; show (i 2 : ℕ) < 0 + 128; omega⟩)
      exact hn y hy
    · rw [bodySt, if_neg hl, ← hs1, hout]
      simp only [absStep, if_neg hl]
      exact ho i (hi.resolve_right fun h => hl h.1)
  · rw [hb _ (by simp), (hm j).1]; exact (hag j).1 i hi
  · rw [hb _ (by simp), (hm j).2]; exact (hag j).2 i hi

/-- A step carries the relation of the buffers to the fold over to the step that follows. -/
theorem rel_next (s s' : Step F) (hf : Follows s s') (st : St F) (x : Abs F) (h : Rel s st x) (slot : Bool) :
    Rel s' (bodySt I s (logitsSt I s' slot st)) (absStep I x s) := by
  have h' : Rel s (logitsSt I s' slot st) x := by
    refine ⟨fun i hi => ?_, fun j => ⟨fun i hi => ?_, fun i hi => ?_⟩⟩
    · rw [logitsSt_other I s' slot st _ (by simp) (by simp)]; exact h.1 i hi
    · rw [logitsSt_other I s' slot st _ (by simp) (by simp)]; exact (h.2 j).1 i hi
    · rw [logitsSt_other I s' slot st _ (by simp) (by simp)]; exact (h.2 j).2 i hi
  obtain ⟨ho, hj⟩ := rel_body I s _ x h'
  rcases hf with ⟨hv, hnl, hc⟩ | ⟨hv, ht, hc0, hl⟩
  · have hcov : ∀ col, col < 512 → cov s' col → (cov s col ∨ (s.c0 ≤ col ∧ col < s.c0 + s.nc)) := by
      intro col hcol hcv
      rcases hc with hc | ⟨hc, hn | ⟨h1, h2, h3⟩⟩
      · exact .inl (.inl hc)
      · right; omega
      · right
        rcases hcv with h | h <;> omega
    refine ⟨fun i hi => ho i (.inl (by rw [← hv]; exact hi)), fun j => ?_⟩
    rw [hv]
    exact ⟨fun i hi => (hj j).1 i (hcov _ (i 1).isLt hi), fun i hi => (hj j).2 i (hcov _ (i 1).isLt hi)⟩
  · refine ⟨fun i hi => ho i (.inr ⟨hl, by rw [hv] at hi; omega⟩), fun j => ⟨fun i hi => ?_, fun i hi => ?_⟩⟩
    · rcases hi with h | h <;> omega
    · rcases hi with h | h <;> omega

/-- The list is linked step by step and ends with the last row block's last step. -/
def Linked : List (Step F) → Prop
  | [] => True
  | [s] => Last s ∧ s.v = 7
  | s :: s' :: l => Follows s s' ∧ Linked (s' :: l)

/-- The buffers before the rest of the steps. -/
def Before (l : List (Step F)) (slot : Bool) (st : St F) (x : Abs F) : Prop :=
  match l with
  | [] => ∀ i : (Sh3 1 4096 128).Idx, st .out i = x.1 i
  | s :: _ => Good I slot s st ∧ Rel s st x

/-- Running the first `n` steps of a linked list is folding them. -/
theorem eval_run (w : BitVec 32) (n : ℕ) : ∀ (l : List (Step F)) (slot : Bool) (st : St F) (x : Abs F),
    Linked l → Before I l slot st x →
      Linked (l.drop n) ∧ Before I (l.drop n) (slot ^^ odd n) ((run n l slot).eval I w st) ((l.take n).foldl (absStep I) x) := by
  induction n with
  | zero =>
    intro l slot st x hl hb
    simpa [run, Cmd.eval, odd] using ⟨hl, hb⟩
  | succ n ih =>
    intro l slot st x hl hb
    match l, hl, hb with
    | [], hl, hb => simpa [run, Cmd.eval, Before] using ⟨hl, hb⟩
    | [s], hl, hb =>
      obtain ⟨hg, hr⟩ := hb
      rw [run, eval_body I w s slot _ st hg]
      refine ⟨by simp [Linked], ?_⟩
      simp only [List.drop_succ_cons, List.drop_nil, List.take_succ_cons, List.take_nil, List.foldl_cons, List.foldl_nil, Before, Cmd.eval]
      intro i
      refine (rel_body I s st x hr).1 i (.inr ⟨hl.1, ?_⟩)
      have := (i 1).isLt
      have h7 := hl.2
      have : (i 1 : ℕ) < 4096 := (i 1).isLt
      omega
    | s :: s' :: l, hl, hb =>
      obtain ⟨hg, hr⟩ := hb
      have hg1 : Good I slot s (logitsSt I s' (!slot) st) := fun j => by
        rw [logitsSt_other I s' _ st _ (by simp) (by simp), logitsSt_other I s' _ st _ (by simp) (by simp)]
        exact hg j
      have hg2 : Good I (!slot) s' (bodySt I s (logitsSt I s' (!slot) st)) := by
        have hb : ∀ y, y ≠ WK.out → (∀ p j, y ≠ WK.m p j) → (∀ p j, y ≠ WK.a p j) →
            bodySt I s (logitsSt I s' (!slot) st) y = logitsSt I s' (!slot) st y := by
          intro y h1 h2 h3
          have e : pvSt I s (odd s.v) true (pvSt I s (odd s.v) false (logitsSt I s' (!slot) st)) y = logitsSt I s' (!slot) st y := by
            rw [pvSt_other I s _ _ _ _ (h2 _ _) (h3 _ _), pvSt_other I s _ _ _ _ (h2 _ _) (h3 _ _)]
          rw [bodySt]
          by_cases hl : Last s
          · rw [if_pos hl, finishSt, put_ne _ _ h1, e]
          · rw [if_neg hl, e]
        intro j
        rw [hb _ (by simp) (by simp) (by simp), hb _ (by simp) (by simp) (by simp)]
        exact good_logits I s' (!slot) st j
      have hx : (slot ^^ odd (n + 1)) = ((!slot) ^^ odd n) := by
        have : odd (n + 1) = !odd n := by
          unfold odd
          rcases Nat.mod_two_eq_zero_or_one n with h | h <;> simp [Nat.add_mod, h]
        rw [this]; cases slot <;> cases odd n <;> rfl
      rw [run, eval_logits, eval_body I w s slot _ _ hg1, List.drop_succ_cons, List.take_succ_cons, List.foldl_cons, hx]
      exact ih (s' :: l) (!slot) _ _ hl.2 ⟨hg2, rel_next I s s' hl.1 st x hr (!slot)⟩

/-! ## The 44 steps are linked -/

/-- `Follows` and the last step, on the numbers alone: row block, key block, first column, columns. -/
def linkedN : List (ℕ × ℕ × ℕ × ℕ) → Bool
  | [] => true
  | [(v, t, c, n)] => decide ((t = v ∧ c + n = 512) ∧ v = 7)
  | (v, t, c, n) :: (v', t', c', n') :: l =>
    decide ((v' = v ∧ ¬ (t = v ∧ c + n = 512) ∧ (0 < t ∨ (c = 0 ∧ (n = 512 ∨ (t' = 0 ∧ c' = 256 ∧ n = 256)))))
      ∨ (v' = v + 1 ∧ t' = 0 ∧ c' = 0 ∧ (t = v ∧ c + n = 512))) && linkedN ((v', t', c', n') :: l)

omit [FloatOps F] in
/-- Steps whose numbers are linked are linked. -/
theorem linked_of_numbers : ∀ (l : List (Step F)), linkedN (l.map fun s => (s.v, s.t, s.c0, s.nc)) = true → Linked l
  | [], _ => trivial
  | [s], h => by
    simp only [List.map, linkedN, decide_eq_true_eq] at h
    exact h
  | s :: s' :: l, h => by
    simp only [List.map, linkedN, Bool.and_eq_true, decide_eq_true_eq] at h
    exact ⟨h.1, linked_of_numbers (s' :: l) h.2⟩

/-- The numbers of a row block's steps. -/
def rowN (v : ℕ) : List (ℕ × ℕ × ℕ × ℕ) := (List.range v).map (fun t => (v, t, 0, 512)) ++ [(v, v, 0, 256), (v, v, 256, 256)]

omit [FloatOps F] in
/-- A row block's steps have the numbers listed. -/
theorem rowSteps_numbers (v : ℕ) (hv : v < 8) : ((rowSteps v hv : List (Step F)).map fun s => (s.v, s.t, s.c0, s.nc)) = rowN v := by
  simp only [rowSteps, rowN, List.map_append, List.map_map, List.map_cons, List.map_nil, half]
  congr 1
  rw [← List.map_coe_finRange_eq_range, List.map_map]
  rfl

omit [FloatOps F] in
/-- The 44 steps are linked. -/
theorem linked_steps : Linked (steps : List (Step F)) := by
  refine linked_of_numbers _ ?_
  simp only [steps, List.map_append, rowSteps_numbers]
  decide

/-- The loop's starting state in the fold: anything, here zeros. -/
def abs0 : Abs F := (fun _ => Scalar.ofBits .bf16 0x0000#16, fun _ => (fun _ => Scalar.ofBits .f32 0x00000000#32, fun _ => Scalar.ofBits .f32 0x00000000#32))

/-- The result's block of one grid point. -/
def foxOut : (Sh3 1 4096 128).Idx → Elt F .bf16 := (steps.foldl (absStep I) abs0).1

/-- Whatever the buffers held, the loop leaves the fold's result in the result's block. -/
theorem eval_fox (st : St F) : (fox.eval I 1#32 st) .out = foxOut I := by
  have ht : test 1#32 := by decide
  have h0 : Before I steps false (logitsSt I (half 0 256 0 (by decide) (.inl rfl) (by decide)) false st) abs0 := by
    show Good I false (half 0 256 0 _ _ _) _ ∧ Rel (half 0 256 0 _ _ _) _ _
    refine ⟨good_logits I _ _ _, fun i hi => absurd hi (Nat.not_lt_zero _), fun j => ⟨fun i hi => ?_, fun i hi => ?_⟩⟩
    · rcases hi with h | h <;> exact absurd h (Nat.not_lt_zero _)
    · rcases hi with h | h <;> exact absurd h (Nat.not_lt_zero _)
  obtain ⟨hl1, hb1⟩ := eval_run I 1#32 22 steps false _ _ linked_steps h0
  obtain ⟨-, hb2⟩ := eval_run I 1#32 22 (steps.drop 22) false _ _ hl1 hb1
  have hlen : (steps (F := F)).length = 44 := rfl
  have hd : ((steps (F := F)).drop 22).drop 22 = [] := List.drop_eq_nil_of_le (by simp [hlen])
  have ht2 : ((steps (F := F)).drop 22).take 22 = steps.drop 22 := List.take_of_length_le (by simp [hlen])
  rw [hd, ht2, ← List.foldl_append, List.take_append_drop] at hb2
  rw [fox, eval_logits]
  simp only [Cmd.eval]
  rw [if_pos ht, if_pos ht]
  exact funext hb2

end Cert.Fox
-- ==== Proof.Fox.Held.lean ====
/- The loop on held buffers: from any scratch contents it leaves the result's block at `foxOut`. -/
module

public import proofs.«01_k».proof.Proof.Fox.Sound
public import proofs.«01_k».proof.Proof.Fox.Model
public import Idealize.ShloMosaic.Lib.Pipeline.Kit

@[expose] public section

noncomputable section

namespace Cert.Fox

open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode

variable {nD : ℕ} {τ : Topo} {sig : RefSig} {Ix : Type} [DecidableEq Ix]
variable {Name : Type} [DecidableEq Name] {U : Type} [URA U] {Lvl : Type} [Preorder Lvl] {Λ : Labels}
variable {F : FTy → Type} [FloatOps F]
local notation "𝕄" => MT nD τ sig Ix (Elt F) Name U Lvl

variable (defs : Defs nD τ sig (Elt F) Λ) (𝒱 : Variants) (c : Dev nD) (bd : Option 𝒱.V)
  {Γ : PendingWaitsCtx sig Ix} (E : Set Name)
  (one : Memref sig .tc .smem (Sh1 1) .i32)
  (im : (x : InK) → Memref sig .tc .vmem x.shape x.elt)
  (wm : (x : WK) → Memref sig .tc .vmem x.shape x.elt) (hw : ∀ x, (wm x).IsWhole)

omit [FloatOps F] in
/-- The inputs one by one. -/
theorem heldIns_eq (I : Ins F) : (heldIns c im I : sProp 𝕄)
    = iprop(owns (c : Thread nD τ) (im .qt) fullShare (I .qt) ∗ owns (c : Thread nD τ) (im .k) fullShare (I .k)
      ∗ owns (c : Thread nD τ) (im .vt) fullShare (I .vt) ∗ owns (c : Thread nD τ) (im .dec) fullShare (I .dec)
      ∗ owns (c : Thread nD τ) (im .ones) fullShare (I .ones) ∗ owns (c : Thread nD τ) (im .mask) fullShare (I .mask)) :=
  bigSep_univ_eq_bigSepL [InK.qt, .k, .vt, .dec, .ones, .mask] (by decide) (by decide) _

/-- The written buffers but the result's block, each at something. -/
def scratch : sProp 𝕄 := bigSep (Finset.univ.erase WK.out) fun x => iprop(∃ X : x.shape.Idx → Elt F x.elt, owns (c : Thread nD τ) (wm x) fullShare X)

/-- A product over a set with one element more. -/
theorem insert_one {I : Type} [DecidableEq I] {i : I} {S : Finset I} (h : i ∉ S) {Φ : I → sProp 𝕄} :
    bigSep (insert i S) Φ = iprop(Φ i ∗ bigSep S Φ) := bigSep_insert h

omit [FloatOps F] in
/-- The scratch buffers one by one. -/
theorem scratch_eq : (scratch c wm : sProp 𝕄)
    = bigSepL
        [WK.s false, .s true, .mx false, .mx true, .m false false, .a false false, .m false true, .a false true,
          .m true false, .a true false, .m true true, .a true true]
        (fun x => iprop(∃ X : x.shape.Idx → Elt F x.elt, owns (c : Thread nD τ) (wm x) fullShare X)) :=
  bigSep_eq_bigSepL_of_eq _ (by decide) (by decide) _

/-- Buffers each held at something are held at some contents of all of them. -/
theorem choose_held (S : Finset WK) : (bigSep S fun x => iprop(∃ X : x.shape.Idx → Elt F x.elt, owns (c : Thread nD τ) (wm x) fullShare X))
    ⊢ (iprop(∃ st : St F, bigSep S fun x => owns (c : Thread nD τ) (wm x) fullShare (st x)) : sProp 𝕄) := by
  induction S using Finset.induction_on with
  | empty =>
    rw [bigSep_empty]
    iintro H
    iexists (fun _ _ => Classical.arbitrary _)
    rw [bigSep_empty]; iexact H
  | insert x S hx ih =>
    rw [insert_one hx]
    iintro ⟨⟨%X, Hx⟩, HS⟩
    ihave HS := ih $$ HS
    icases HS with ⟨%st, HS⟩
    iexists (put st x X)
    rw [insert_one hx, put_self]
    isplitl [Hx]; · iexact Hx
    rw [bigSep_congr (Φ := fun y => owns (c : Thread nD τ) (wm y) fullShare (put st x X y)) fun y hy => by
      rw [put_ne st X (fun h => hx (h ▸ hy))]]
    iexact HS

/-- Buffers held at some contents are each held at something. -/
theorem forget_held (S : Finset WK) (st : St F) : iprop(bigSep S fun x => owns (c : Thread nD τ) (wm x) fullShare (st x))
    ⊢ (iprop(bigSep S fun x => iprop(∃ X : x.shape.Idx → Elt F x.elt, owns (c : Thread nD τ) (wm x) fullShare X)) : sProp 𝕄) :=
  bigSep_mono fun y _ => exists_intro (Φ := fun X => owns (c : Thread nD τ) (wm y) fullShare X) (st y)

/-- What the loop leaves: the result's block at `foxOut`, the scratch at something. -/
theorem left_held (I : Ins F) (st : St F) : iprop(heldSt c wm (fox.eval I 1#32 st))
    ⊢ (iprop(owns (c : Thread nD τ) (wm .out) fullShare (foxOut I) ∗ scratch c wm) : sProp 𝕄) := by
  have h := forget_held (nD := nD) (τ := τ) (sig := sig) (Ix := Ix) (Name := Name) (U := U) (Lvl := Lvl) c wm (Finset.univ.erase WK.out) (fox.eval I 1#32 st)
  unfold heldSt scratch
  rw [split_one WK.out, eval_fox]
  exact sep_mono .rfl h

/-- The whole loop on held buffers. -/
theorem sound_fox (I : Ins F) (X : (Sh3 1 4096 128).Idx → Elt F .bf16) (Q : PUnit → sProp 𝕄) :
    iprop(heldWord c one 1#32 ∗ heldIns c im I ∗ owns (c : Thread nD τ) (wm .out) fullShare X ∗ scratch c wm
        ∗ (iprop(heldWord c one 1#32 ∗ heldIns c im I ∗ owns (c : Thread nD τ) (wm .out) fullShare (foxOut I) ∗ scratch c wm) -∗ Q ⟨⟩))
      ⊢ wp frame (wpE' defs 𝒱 (c : Thread nD τ) bd Γ) E (fox.prog one im wm hw) Q := by
  iintro ⟨Ho, Hi, Hx, Hs, Hk⟩
  unfold scratch
  ihave Hs := (choose_held c wm (Finset.univ.erase WK.out)) $$ Hs
  icases Hs with ⟨%st, Hs⟩
  iapply (sound defs 𝒱 c bd E one im wm hw I 1#32 fox (put st .out X) Q)
  isplitl [Ho]; · iexact Ho
  isplitl [Hi]; · iexact Hi
  isplitl [Hx Hs]
  · unfold heldSt
    rw [split_one WK.out, put_self]
    isplitl [Hx]; · iexact Hx
    rw [bigSep_congr (Φ := fun y => owns (c : Thread nD τ) (wm y) fullShare (put st WK.out X y)) fun y hy => by
      rw [put_ne st X (Finset.ne_of_mem_erase hy)]]
    iexact Hs
  iintro ⟨Ho, Hi, Hs⟩
  iapply Hk
  isplitl [Ho]; · iexact Ho
  isplitl [Hi]; · iexact Hi
  iapply (left_held c wm I (put st .out X))
  iexact Hs

end Cert.Fox
-- ==== Proof.Fox.KernelIdealBody.lean ====
module

public import proofs.«01_k».proof.Proof.Fox.Body
public import proofs.«01_k».proof.Proof.Gen.KernelIdeal.Skeleton
public import Idealize.ShloMosaic.Lib.Pipeline.Regions

@[expose] public section
noncomputable section
namespace Cert.KernelIdeal.Fox
open Idealize.ShloMosaic Idealize.SL.Sem Cert.KernelIdeal.Gen
variable {F : FTy → Type} [FloatOps F] [Named F]
set_option maxRecDepth 1000000
set_option maxHeartbeats 0

/-- The buffers the loop reads. -/
def ins (arg3 : Memref sig .tc .vmem S1x128x4096 .bf16) (arg4 : Memref sig .tc .vmem S1x4096x128 .bf16)
    (arg5 : Memref sig .tc .vmem S1x160x4096 .bf16) (arg6 : Memref sig .tc .vmem S1x4096x128 .bf16)
    (arg7 : Memref sig .tc .vmem S1x2x128x512 .bf16) (arg8 : Memref sig .tc .vmem S512x512 .f32) :
    (x : Cert.Fox.InK) → Memref sig .tc .vmem x.shape x.elt
  | .qt => arg3 | .k => arg4 | .vt => arg5 | .dec => arg6 | .ones => arg7 | .mask => arg8

/-- The buffers it writes. -/
def outs (arg9 : Memref sig .tc .vmem S1x4096x128 .bf16)
    (arg10 arg11 : Memref sig .tc .vmem S2x512x512 .f32) (arg12 arg13 : Memref sig .tc .vmem S2x1x512 .f32)
    (arg14 : Memref sig .tc .vmem S1x512 .f32) (arg15 : Memref sig .tc .vmem S80x512 .f32)
    (arg16 : Memref sig .tc .vmem S1x512 .f32) (arg17 : Memref sig .tc .vmem S80x512 .f32)
    (arg18 : Memref sig .tc .vmem S1x512 .f32) (arg19 : Memref sig .tc .vmem S80x512 .f32)
    (arg20 : Memref sig .tc .vmem S1x512 .f32) (arg21 : Memref sig .tc .vmem S80x512 .f32) :
    (x : Cert.Fox.WK) → Memref sig .tc .vmem x.shape x.elt
  | .out => arg9 | .s false => arg10 | .s true => arg11 | .mx false => arg12 | .mx true => arg13
  | .m false false => arg14 | .a false false => arg15 | .m false true => arg16 | .a false true => arg17
  | .m true false => arg18 | .a true false => arg19 | .m true true => arg20 | .a true true => arg21

/-- The written buffers are whole ones. -/
theorem outs_whole
    (arg9 : Memref sig .tc .vmem S1x4096x128 .bf16) (h9 : arg9.IsWhole)
    (arg10 : Memref sig .tc .vmem S2x512x512 .f32) (h10 : arg10.IsWhole) (arg11 : Memref sig .tc .vmem S2x512x512 .f32) (h11 : arg11.IsWhole) (arg12  : Memref sig .tc .vmem S2x1x512 .f32) (h12 : arg12.IsWhole) (arg13 : Memref sig .tc .vmem S2x1x512 .f32) (h13 : arg13.IsWhole)
    (arg14 : Memref sig .tc .vmem S1x512 .f32) (h14 : arg14.IsWhole) (arg15 : Memref sig .tc .vmem S80x512 .f32) (h15 : arg15.IsWhole)
    (arg16 : Memref sig .tc .vmem S1x512 .f32) (h16 : arg16.IsWhole) (arg17 : Memref sig .tc .vmem S80x512 .f32) (h17 : arg17.IsWhole)
    (arg18 : Memref sig .tc .vmem S1x512 .f32) (h18 : arg18.IsWhole) (arg19 : Memref sig .tc .vmem S80x512 .f32) (h19 : arg19.IsWhole)
    (arg20 : Memref sig .tc .vmem S1x512 .f32) (h20 : arg20.IsWhole) (arg21 : Memref sig .tc .vmem S80x512 .f32) (h21 : arg21.IsWhole) :
    ∀ x, (outs arg9 arg10 arg11 arg12 arg13 arg14 arg15 arg16 arg17 arg18 arg19 arg20 arg21 x).IsWhole
  | .out => h9 | .s false => h10 | .s true => h11 | .mx false => h12 | .mx true => h13
  | .m false false => h14 | .a false false => h15 | .m false true => h16 | .a false true => h17
  | .m true false => h18 | .a true false => h19 | .m true true => h20 | .a true true => h21

/-- The call's body is the sequence of commands of the 44 steps. -/
theorem body_eq (i : grid1.Coords) (arg2 : Memref sig .tc .smem S1 .i32) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x160x4096 .bf16) (harg5 : arg5.IsWhole) (arg6 : Memref sig .tc .vmem S1x4096x128 .bf16) (harg6 : arg6.IsWhole) (arg7 : Memref sig .tc .vmem S1x2x128x512 .bf16) (harg7 : arg7.IsWhole) (arg8 : Memref sig .tc .vmem S512x512 .f32) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S1x512 .f32) (harg14 : arg14.IsWhole) (arg15 : Memref sig .tc .vmem S80x512 .f32) (harg15 : arg15.IsWhole) (arg16 : Memref sig .tc .vmem S1x512 .f32) (harg16 : arg16.IsWhole) (arg17 : Memref sig .tc .vmem S80x512 .f32) (harg17 : arg17.IsWhole) (arg18 : Memref sig .tc .vmem S1x512 .f32) (harg18 : arg18.IsWhole) (arg19 : Memref sig .tc .vmem S80x512 .f32) (harg19 : arg19.IsWhole) (arg20 : Memref sig .tc .vmem S1x512 .f32) (harg20 : arg20.IsWhole) (arg21 : Memref sig .tc .vmem S80x512 .f32) (harg21 : arg21.IsWhole) :
    cc1_fox_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = Cert.Fox.fox.prog arg2 (ins arg3 arg4 arg5 arg6 arg7 arg8)
      (outs arg9 arg10 arg11 arg12 arg13 arg14 arg15 arg16 arg17 arg18 arg19 arg20 arg21)
      (outs_whole arg9 harg9 arg10 harg10 arg11 harg11 arg12 harg12 arg13 harg13 arg14 harg14 arg15 harg15 arg16 harg16 arg17 harg17 arg18 harg18 arg19 harg19 arg20 harg20 arg21 harg21) := by
  chain_rfl

end Cert.KernelIdeal.Fox
-- ==== Proof.Fox.KernelIdealRun.lean ====
/- The program's two kernel calls run, and what its result holds: the mask's call fills one block
   with zeros on and over the diagonal and the mask's constant under it; the attention's call leaves
   `Cert.Fox.foxOut` of its operands' blocks at every grid point. -/
module

public import proofs.«01_k».proof.Proof.Fox.KernelIdealBody
public import proofs.«01_k».proof.Proof.Fox.Held
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Tactic

@[expose] public section

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F] [Named F]

local notation "𝕄" => MT nD τ sig Unit (Elt F) ℕ (UR sig nD τ) ℕ

/-- The contents of one core's buffers. -/
abbrev Conts : Type := (c : Dev nD) → (b : Ref sig .tc) → Buf (Elt F) ((c : Thread nD τ).loc b)

/-- No loop of the machine's carries a variant. -/
abbrev 𝒱₀ : Variants := Variants.none

/-! ## The proof data -/

/-- The mask's call: its one window is left at the mask. -/
def dat0 (V : Conts (F := F)) (c : Dev nD) : Dat τ (Elt F) Unit ℕ (UR sig nD τ) ℕ cfg0 c where
  A w := V c (Pipeline.arrRef spec0 w)
  after w _ := match w with
    | ⟨0, _⟩ => k0_pay1
  Φ _ := Pipeline.scopedRest spec0 c
  q _ := fullShare
  owed _ := 0

/-- The blocks of the attention's operands at a grid point. -/
def insAt (V : Conts (F := F)) (c : Dev nD) (t : Fin cfg1.N) : Cert.Fox.Ins F
  | .qt => ((cfg1.win 1).blk t).view.read (Elt F) (V c main_arg0)
  | .k => ((cfg1.win 2).blk t).view.read (Elt F) (V c main_arg1)
  | .vt => ((cfg1.win 3).blk t).view.read (Elt F) (V c main_arg2)
  | .dec => ((cfg1.win 4).blk t).view.read (Elt F) (V c main_arg3)
  | .ones => ((cfg1.win 5).blk t).view.read (Elt F) (V c main_v16)
  | .mask => ((cfg1.win 6).blk t).view.read (Elt F) (V c main_v14)

/-- The attention's call: the operands' windows are left as found, the result's at the loop's result. -/
def dat1 (V : Conts (F := F)) (c : Dev nD) : Dat τ (Elt F) Unit ℕ (UR sig nD τ) ℕ cfg1 c where
  A w := V c (Pipeline.arrRef spec1 w)
  after w t := match w with
    | ⟨0, _⟩ => ((cfg1.win 0).blk t).view.read (Elt F) (V c main_v15)
    | ⟨1, _⟩ => ((cfg1.win 1).blk t).view.read (Elt F) (V c main_arg0)
    | ⟨2, _⟩ => ((cfg1.win 2).blk t).view.read (Elt F) (V c main_arg1)
    | ⟨3, _⟩ => ((cfg1.win 3).blk t).view.read (Elt F) (V c main_arg2)
    | ⟨4, _⟩ => ((cfg1.win 4).blk t).view.read (Elt F) (V c main_arg3)
    | ⟨5, _⟩ => ((cfg1.win 5).blk t).view.read (Elt F) (V c main_v16)
    | ⟨6, _⟩ => ((cfg1.win 6).blk t).view.read (Elt F) (V c main_v14)
    | ⟨7, _⟩ => Cert.Fox.foxOut (insAt V c t)
  Φ _ := Pipeline.scopedRest spec1 c
  q _ := fullShare
  owed _ := 0

/-- Both calls' proof data. -/
def pdats (V V' : Conts (F := F)) : (p : Fin 2) → (c : Dev nD) → Dat τ (Elt F) Unit ℕ (UR sig nD τ) ℕ (cfgs p) c
  | ⟨0, _⟩ => fun c => dat0 V c
  | ⟨1, _⟩ => fun c => dat1 V' c

/-! ## The bodies -/

/-- A store over the whole block leaves what was stored. -/
theorem over_mask (X w : S512x512.Idx → Elt F .f32) :
    Cert.Fox.over (Rect.unit (s := S512x512) ![0, 0] S512x512.size inb_S512x512_S512x512_0_0) X w = w := by
  funext i
  have h : (Rect.unit (s := S512x512) ![0, 0] S512x512.size inb_S512x512_S512x512_0_0).emb i = i := by
    funext a
    apply Fin.ext
    fin_cases a
    · show 0 + 1 * (i 0 : ℕ) = _; simp
    · show 0 + 1 * (i 1 : ℕ) = _; simp
  conv_lhs => rw [← h]
  exact Cert.Fox.over_emb (Rect.unit (s := S512x512) ![0, 0] S512x512.size inb_S512x512_S512x512_0_0) X w i

/-- The mask's body stores the mask whatever was there. -/
theorem body0 (V : Conts (F := F)) (c : Dev nD) : BodyObligation (dat0 V c) (defs₀ (F := F)) 𝒱₀ () Set.univ := fun t => by
  obtain rfl := fin_N0 t
  rw [bigSep_W0, bigSep_W0]
  rw [show (defs₀ (F := F)) .tc cfg0.body (cfg0.bodyArgs t0_0 (cfg0.slots t0_0)) = bodyAt0 (F := F) t0_0 from rfl]
  rw [show bodyAt0 (F := F) t0_0 = cc0__mask_kernel_skel (win0_0.stage (cfg0.slots t0_0 0)) (hstage0_0 0) from rfl]
  rw [show (dat0 V c).Φ t0_0.succ = (dat0 V c).Φ t0_0.castSucc from rfl,
    show (dat0 V c).owesAt () t0_0.succ = (dat0 V c).owesAt () t0_0.castSucc from rfl]
  iintro ⟨HΦ, Howes, ⟨%d, Hw⟩⟩
  unfold cc0__mask_kernel_skel
  iapply (Cert.Fox.load_owned (defs₀ (F := F)) 𝒱₀ c none Set.univ (win0_0.stage (cfg0.slots t0_0 0)) _ _ _ _ _)
  isplitl [Hw]; · iexact Hw
  iintro Hw
  iapply (Cert.Fox.store_owned (defs₀ (F := F)) 𝒱₀ c none Set.univ (win0_0.stage (cfg0.slots t0_0 0)) _ _ _ _ _ _ _)
  isplitl [Hw]; · iexact Hw
  iintro Hw
  rw [over_mask, show (pure ⟨⟩ : Prog (TpuEff nD τ sig (Elt F) Λ₀ .tc) PUnit) = .ret ⟨⟩ from rfl,
    show ((Prog.ret PUnit.unit).bind fun _ => Prog.ret PUnit.unit : Prog (TpuEff nD τ sig (Elt F) Λ₀ .tc) PUnit) = .ret ⟨⟩ from rfl, wp_ret]
  imodintro
  isplitl [HΦ]; · iexact HΦ
  isplitl [Howes]; · iexact Howes
  iexact Hw

/-- The scratch buffers of the attention's call, one memref each. -/
abbrev scr : (x : Cert.Fox.WK) → (Memref sig .tc .vmem S1x4096x128 .bf16) → Memref sig .tc .vmem x.shape x.elt := fun x m =>
  outs m (Memref.whole cc1_scratch0) (Memref.whole cc1_scratch1) (Memref.whole cc1_scratch2) (Memref.whole cc1_scratch3)
    (Memref.whole cc1_scratch4) (Memref.whole cc1_scratch5) (Memref.whole cc1_scratch6) (Memref.whole cc1_scratch7)
    (Memref.whole cc1_scratch8) (Memref.whole cc1_scratch9) (Memref.whole cc1_scratch10) (Memref.whole cc1_scratch11) x

omit [FloatOps F] [Named F] in
/-- A whole buffer held at something, as its memref held at something. -/
theorem some_whole (c : Dev nD) (b : Ref sig .tc) :
    (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) := by
  simp only [owns_whole]

/-- What the loop may use beside the staged windows is its twelve scratch buffers; the mask's staging buffer rides along. -/
theorem rest_eq (c : Dev nD) (m : Memref sig .tc .vmem S1x4096x128 .bf16) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f)
          ∗ Cert.Fox.scratch c (fun x => scr x m)) := by
  rw [scopedRest1_eq, Cert.Fox.scratch_eq]
  rw [some_whole c cc1_scratch0, some_whole c cc1_scratch1, some_whole c cc1_scratch2, some_whole c cc1_scratch3, some_whole c cc1_scratch4,
    some_whole c cc1_scratch5, some_whole c cc1_scratch6, some_whole c cc1_scratch7, some_whole c cc1_scratch8, some_whole c cc1_scratch9,
    some_whole c cc1_scratch10, some_whole c cc1_scratch11]
  rfl

/-- A fetched window's buffer holds its operand's block when the body runs. -/
theorem before1 (V : Conts (F := F)) (c : Dev nD) (t : Fin cfg1.N) (w : Fin 8) (hw : (cfg1.win w).isOut = false)
    (hk : ∀ t, (cfg1.win w).cut (cfg1.grid.coords t) ((dat1 V c).after w t) = (dat1 V c).blockOf w t)
    (hc : ∀ t t' : Fin cfg1.N, (cfg1.win w).index t = (cfg1.win w).index t' → (cfg1.win w).clip (cfg1.grid.coords t) = (cfg1.win w).clip (cfg1.grid.coords t')) (d) :
    (dat1 V c).before w t d = (dat1 V c).fetched w t d :=
  (dat1 V c).before_in_eq_fetched w hw (fun _ => rfl) hc hk t d

set_option maxHeartbeats 2000000 in
/-- The attention's body at a grid point, its windows one by one. -/
theorem point1 (V : Conts (F := F)) (hV : ∀ c, V c main_v15 = fun _ => 1#32) (c : Dev nD) (t : Fin cfg1.N) (O : sProp 𝕄) :
    iprop(Pipeline.scopedRest spec1 c ∗ O
        ∗ (∃ d, owns (c : Thread nD τ) (st1_0 t) fullShare ((dat1 V c).before 0 t d)) ∗ (∃ d, owns (c : Thread nD τ) (st1_1 t) fullShare ((dat1 V c).before 1 t d))
        ∗ (∃ d, owns (c : Thread nD τ) (st1_2 t) fullShare ((dat1 V c).before 2 t d)) ∗ (∃ d, owns (c : Thread nD τ) (st1_3 t) fullShare ((dat1 V c).before 3 t d))
        ∗ (∃ d, owns (c : Thread nD τ) (st1_4 t) fullShare ((dat1 V c).before 4 t d)) ∗ (∃ d, owns (c : Thread nD τ) (st1_5 t) fullShare ((dat1 V c).before 5 t d))
        ∗ (∃ d, owns (c : Thread nD τ) (st1_6 t) fullShare ((dat1 V c).before 6 t d)) ∗ (∃ d, owns (c : Thread nD τ) (st1_7 t) fullShare ((dat1 V c).before 7 t d)))
      ⊢ wp frame (wpE (defs₀ (F := F)) 𝒱₀ (c : Thread nD τ) none) Set.univ (bodyAt1 (F := F) t) (fun _ =>
        iprop(Pipeline.scopedRest spec1 c ∗ O
          ∗ owns (c : Thread nD τ) (st1_0 t) fullShare ((dat1 V c).after 0 t) ∗ owns (c : Thread nD τ) (st1_1 t) fullShare ((dat1 V c).after 1 t)
          ∗ owns (c : Thread nD τ) (st1_2 t) fullShare ((dat1 V c).after 2 t) ∗ owns (c : Thread nD τ) (st1_3 t) fullShare ((dat1 V c).after 3 t)
          ∗ owns (c : Thread nD τ) (st1_4 t) fullShare ((dat1 V c).after 4 t) ∗ owns (c : Thread nD τ) (st1_5 t) fullShare ((dat1 V c).after 5 t)
          ∗ owns (c : Thread nD τ) (st1_6 t) fullShare ((dat1 V c).after 6 t) ∗ owns (c : Thread nD τ) (st1_7 t) fullShare ((dat1 V c).after 7 t))) := by
  have hb : bodyAt1 (F := F) t = _ := body_eq ..
  rw [rest_eq c (st1_7 t), hb]
  iintro ⟨⟨HΦ, Hs⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1 V c t 0 rfl (fun _ => rfl) (fun _ _ _ => rfl), before1 V c t 1 rfl (fun _ => rfl) (fun _ _ _ => rfl), before1 V c t 2 rfl (fun _ => rfl) (fun _ _ _ => rfl), before1 V c t 3 rfl (fun _ => rfl) (fun _ _ _ => rfl),
    before1 V c t 4 rfl (fun _ => rfl) (fun _ _ _ => rfl), before1 V c t 5 rfl (fun _ => rfl) (fun _ _ _ => rfl), before1 V c t 6 rfl (fun _ => rfl) (fun _ _ _ => rfl)]
  have hone : (dat1 V c).fetched 0 t d0 = fun _ => 1#32 := by
    show ((cfg1.win 0).blk t).view.read (Elt F) (V c main_v15) = _
    rw [hV]; rfl
  have hone' : (dat1 V c).after 0 t = fun _ => 1#32 := hone
  rw [hone, hone']
  iapply (Cert.Fox.sound_fox (defs₀ (F := F)) 𝒱₀ c none Set.univ (st1_0 t) _ _ _ (insAt V c t) ((dat1 V c).before 7 t d7) _)
  unfold Cert.Fox.heldWord
  rw [Cert.Fox.heldIns_eq]
  isplitl [H0]; · iexact H0
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  isplitl [Hs]; · iexact Hs
  iintro ⟨H0, ⟨H1, H2, H3, H4, H5, H6⟩, H7, Hs⟩
  isplitl [HΦ Hs]
  · isplitl [HΦ] <;> iassumption
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The attention's body obligation. -/
theorem body1 (V : Conts (F := F)) (hV : ∀ c, V c main_v15 = fun _ => 1#32) (c : Dev nD) :
    BodyObligation (dat1 V c) (defs₀ (F := F)) 𝒱₀ () Set.univ := fun t => by
  rw [bigSep_W1, bigSep_W1]
  exact point1 V hV c t ((dat1 V c).owesAt () t.castSucc)

/-! ## The calls over the thread state -/

/-- No core owes another anything: no level is assigned. -/
abbrev L : GSem nD τ sig → Finset Unit := fun _ => ∅
/-- The level of nothing. -/
abbrev lv : GSem nD τ sig → Unit → ℕ := fun _ _ => 0

/-- What rides along beside the buffers: the core owes nothing. -/
abbrev idle (c : Dev nD) : sProp 𝕄 := iprop(∃ W, owes (c : Thread nD τ) (0 : CellTallies nD τ sig Unit) W)

omit [FloatOps F] [Named F] in
/-- The unscoped buffers held at a valuation are what a call is entered with. -/
theorem enter (c : Dev nD) (W : Valuation τ sig (Elt F)) :
    iprop(StableHlo.held (c : Thread nD τ) (Pipeline.ucRefs τ sig) W ∗ idle c) ⊢ (iprop(unscopedBufs c (fun b => W b) ∗ idle c) : sProp 𝕄) := by
  rw [← Pipeline.unscopedBufs_held (Ix := Unit) (Name := ℕ) (U := UR sig nD τ) (Lvl := ℕ) c W]

omit [FloatOps F] [Named F] in
/-- And what a call leaves is the unscoped buffers held at a valuation. -/
theorem leave (c : Dev nD) (W : Valuation τ sig (Elt F)) :
    (iprop(unscopedBufs c (fun b => W b) ∗ idle c) : sProp 𝕄) ⊢ iprop(StableHlo.held (c : Thread nD τ) (Pipeline.ucRefs τ sig) W ∗ idle c) := by
  rw [← Pipeline.unscopedBufs_held (Ix := Unit) (Name := ℕ) (U := UR sig nD τ) (Lvl := ℕ) c W]

section Regions

variable (V V' Vp : Conts (F := F))

-- the layout lemmas are stated at the pinned configuration, which unifies only by unfolding in a metavariable's type
set_option backward.isDefEq.respectTransparency.types false in
/-- The mask's call, entered with every unscoped buffer at `V` and left with them at `Vp`. -/
def reg0 (hVp_out : ∀ c, Vp c main_v14 = (dat0 V c).arrAt 0 cfg0.N)
    (hVp_ne : ∀ c (b : Ref sig .tc), b ≠ main_v14 → Vp c b = V c b) :
    RegionSeg (pcfgs (F := F)) adm (pdats V V') () defs₀ 𝒱₀ L lv 0 where
  win := launch0.win.to₀
  block_pos := launch0.block_pos
  stage_whole := launch0.stage_whole
  K := PEmpty
  osem k := k.elim
  ho := Pipeline.OwnSemFacts.none _
  hbody c := (body0 V c).loose
  hwaits := Pipeline.hwaits_of_owed_zero _ _ _ _ L lv 0 fun _ _ => rfl
  pre c := iprop(unscopedBufs c (V c) ∗ idle c)
  post c := iprop(unscopedBufs c (Vp c) ∗ idle c)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm (pdats V V') launch0.win launch0.arr_whole c
      ((pdats V V' 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 0 c).Φ 0 = Pipeline.scopedRest spec0 c from rfl]
    iintro ⟨-, -, Hr⟩; iexact Hr
  hout c := by
    rw [Pipeline.ownSems0_none, show (pdats V V' 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats V V') ((pdats V V' 0 c).share_full fun _ => rfl) (V c) (Vp c) ((pdats V V' 0 c).arrAt · cfg0.N)
      (fun w => by
        fin_cases w
        exact (hVp_out c).symm)
      (fun b hb => hVp_ne c b fun h => hb (h ▸ Finset.mem_image.mpr ⟨0, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The attention's call, entered with every unscoped buffer at `V'` and left with them at `Vp`. -/
def reg1 (hone : ∀ c, V' c main_v15 = fun _ => 1#32) (hVp_out : ∀ c, Vp c main_v17 = (dat1 V' c).arrAt 7 cfg1.N)
    (hVp_ne : ∀ c (b : Ref sig .tc), b ≠ main_v17 → Vp c b = V' c b) :
    RegionSeg (pcfgs (F := F)) adm (pdats V V') () defs₀ 𝒱₀ L lv 1 where
  win := launch1.win.to₀
  block_pos := launch1.block_pos
  stage_whole := launch1.stage_whole
  K := PEmpty
  osem k := k.elim
  ho := Pipeline.OwnSemFacts.none _
  hbody c := (body1 V' hone c).loose
  hwaits := Pipeline.hwaits_of_owed_zero _ _ _ _ L lv 1 fun _ _ => rfl
  pre c := iprop(unscopedBufs c (V' c) ∗ idle c)
  post c := iprop(unscopedBufs c (Vp c) ∗ idle c)
  X _ := BI.emp
  Y _ := BI.emp
  Z c := Pipeline.unscopedRest (Ix := Unit) (Name := ℕ) (U := UR sig nD τ) (Lvl := ℕ) spec1 c (V' c)
  hentry c := by
    rw [Pipeline.ownSems0_none]
    have hsplit := Pipeline.arrays_of_unscopedBufs (p := 1) (pcfgs (F := F)) adm (pdats V V') launch1.win launch1.arr_whole c
      ((pdats V V' 1 c).share_full fun _ => rfl) (V' c) (fun w => by fin_cases w <;> rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 1 c).Φ 0 = Pipeline.scopedRest spec1 c from rfl]
    iintro ⟨-, -, Hr⟩; iexact Hr
  hout c := by
    rw [Pipeline.ownSems0_none, show (pdats V V' 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats V V') ((pdats V V' 1 c).share_full fun _ => rfl) (V' c) (Vp c) ((pdats V V' 1 c).arrAt · cfg1.N)
      (fun w => by
        fin_cases w
        · exact ((pdats V V' 1 c).arrAt_in 0 rfl _).trans (hVp_ne c main_v15 (by decide)).symm
        · exact ((pdats V V' 1 c).arrAt_in 1 rfl _).trans (hVp_ne c main_arg0 (by decide)).symm
        · exact ((pdats V V' 1 c).arrAt_in 2 rfl _).trans (hVp_ne c main_arg1 (by decide)).symm
        · exact ((pdats V V' 1 c).arrAt_in 3 rfl _).trans (hVp_ne c main_arg2 (by decide)).symm
        · exact ((pdats V V' 1 c).arrAt_in 4 rfl _).trans (hVp_ne c main_arg3 (by decide)).symm
        · exact ((pdats V V' 1 c).arrAt_in 5 rfl _).trans (hVp_ne c main_v16 (by decide)).symm
        · exact ((pdats V V' 1 c).arrAt_in 6 rfl _).trans (hVp_ne c main_v14 (by decide)).symm
        · exact (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Regions

/-! ## The whole program -/

section Run

variable (m : (ℓ : Loc nD τ sig) → Buf (Elt F) ℓ)

/-- What the mask's call leaves. -/
def maskArr (c : Dev nD) : Buf (Elt F) ((c : Thread nD τ).loc main_v14) := (dat0 (fun c b => V2 m c b) c).arrAt 0 cfg0.N

/-- The buffers the attention's call is entered with. -/
def W4 (c : Dev nD) : Valuation τ sig (Elt F) := StableHlo.after hostOps1 (Function.update (V2 m c) main_v14 (maskArr m c))

/-- What the attention's call leaves. -/
def foxArr (c : Dev nD) : Buf (Elt F) ((c : Thread nD τ).loc main_v17) := (dat1 (fun c b => W4 m c b) c).arrAt 7 cfg1.N

/-- Both calls' results. -/
def outsOf : Outs (F := F) := fun J r c =>
  if J = 3 then Function.update (V2 m c) (Proc.devRef .tc main_v14) (maskArr m c) (Proc.devRef .tc r)
  else Function.update (W4 m c) (Proc.devRef .tc main_v17) (foxArr m c) (Proc.devRef .tc r)

/-- The mask's call leaves the mask. -/
theorem outs3 (c : Dev nD) : outsOf m 3 main_v14 c = maskArr m c := by
  unfold outsOf; rw [if_pos rfl, Function.update_self]

/-- The attention's call leaves its result. -/
theorem outs5 (c : Dev nD) : outsOf m 5 main_v17 c = foxArr m c := by
  unfold outsOf; rw [if_neg (by decide), Function.update_self]

/-- The contents before the attention's call hold the mask. -/
theorem V4_eq (c : Dev nD) : V4 m (outsOf m) c = W4 m c := by
  unfold V4 V3 W4; rw [outs3]

/-- The contents after the attention's call hold its result. -/
theorem V5_out (c : Dev nD) : V5 m (outsOf m) c main_v17 = foxArr m c := by
  unfold V5; rw [Function.update_self, outs5]

/-- The word the attention's call tests is one. -/
theorem W4_one (c : Dev nD) : W4 m c main_v15 = fun _ => 1#32 := rfl

/-- The proof data of the run. -/
abbrev runDats := pdats (F := F) (fun c b => V2 m c b) (fun c b => V4 m (outsOf m) c b)

/-- The mask's call in the run. -/
def R0 : RegionSeg (pcfgs (F := F)) adm (runDats m) () defs₀ 𝒱₀ L lv 0 :=
  reg0 (fun c b => V2 m c b) (fun c b => V4 m (outsOf m) c b) (fun c b => V3 m (outsOf m) c b)
    (fun c => by show V3 m (outsOf m) c main_v14 = _; unfold V3; rw [Function.update_self, outs3]; rfl)
    (fun c b hb => V3_of m (outsOf m) c b (by simpa using hb))

/-- The attention's call in the run. -/
def R1 : RegionSeg (pcfgs (F := F)) adm (runDats m) () defs₀ 𝒱₀ L lv 1 :=
  reg1 (fun c b => V2 m c b) (fun c b => V4 m (outsOf m) c b) (fun c b => V5 m (outsOf m) c b)
    (fun c => by show V4 m (outsOf m) c main_v15 = _; rw [V4_eq, W4_one])
    (fun c => by
      show V5 m (outsOf m) c main_v17 = _
      rw [V5_out, foxArr]
      exact congrArg (fun V : Conts (F := F) => (dat1 V c).arrAt 7 cfg1.N)
        (funext fun c => funext fun b => congrFun (V4_eq m c).symm (Proc.devRef .tc b)))
    (fun c b hb => V5_of m (outsOf m) c b (by simpa using hb))

set_option backward.isDefEq.respectTransparency.types false in
/-- The program runs: its result's array ends at `foxArr`, its arguments as launched, every counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v17) = foxArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (runDats m) () cellOf_inj (emb₁ : Emb (UR sig nD τ) 𝕄) defs₀ 𝒱₀ L lv m ρ main
    (segs m (outsOf m) 𝒱₀ L lv (fun _ => idle) () (runDats m) (R0 m) (R1 m))
    (fun c Q => by
      rewrite [main_chain c, Pipeline.Seg.run_eq_chain,
        show (segs m (outsOf m) 𝒱₀ L lv (fun _ => idle) () (runDats m) (R0 m) (R1 m) c).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idle c))
    (Tₙ := fun c => StableHlo.held (c : Thread nD τ) (Pipeline.ucRefs τ sig) (V5 m (outsOf m) c))
    (hch := fun c => ⟨.rfl, .rfl,
      enter c _,
      leave c _,
      enter c _,
      leave c _⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v17) = foxArr m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V5 m (outsOf m) c) s') $$ [Hh HSI]
  · isplitl [Hh] <;> iassumption
  icases Hr with ⟨%h, HSI⟩
  imodintro
  isplitr
  · ipureintro
    have hr := fun r hr => h (Proc.devRef .tc r) (Finset.mem_filter.mpr ⟨StableHlo.devRef_mem_tcRefs r, hr⟩)
    exact ⟨(hr main_v17 (by decide)).trans (V5_out m c), (hr main_arg0 (by decide)).trans (V5_main_arg0 m _ c),
      (hr main_arg1 (by decide)).trans (V5_main_arg1 m _ c), (hr main_arg2 (by decide)).trans (V5_main_arg2 m _ c),
      (hr main_arg3 (by decide)).trans (V5_main_arg3 m _ c)⟩
  · iexact HSI

end Run

end Cert.KernelIdeal.Fox
-- ==== Proof.Fox.Softmax.lean ====
/- The softmax over extended reals: weights `2 ^ z` of the keys up to a query, zero after it, in the
   running form a tile loop computes and in the form over all keys at once. -/
module

public import Idealize.ShloMosaic.PureOps
public import Idealize.ShloMosaic.PureOps.Ideal.Laws
public import Idealize.ShloMosaic.Lib.IdealHost

@[expose] public section

noncomputable section

namespace Cert.Fox

open Idealize.ShloMosaic

/-- The weight of a key: two to its logit, zero past the query. -/
def wt (q : ℕ) (z : ℕ → ℝ) (key : ℕ) : ℝ := if key ≤ q then Real.rpow 2 (z key) else 0

/-- The masked logit. -/
def lm (q : ℕ) (z : ℕ → ℝ) (key : ℕ) : EReal := if key ≤ q then (z key : EReal) else ⊥

/-- The weighted values of the first `n` keys. -/
def part (q : ℕ) (z : ℕ → ℝ) (v : ℕ → EReal) (n : ℕ) : EReal := ∑ key ∈ Finset.range n, (wt q z key : EReal) * v key

/-- The softmax of the logits up to the query, times the values, over `n` keys. -/
def att (n q : ℕ) (z : ℕ → ℝ) (v : ℕ → EReal) : EReal :=
  part q z v n * (((∑ key ∈ Finset.range n, wt q z key)⁻¹ : ℝ) : EReal)

/-- Only the values of the keys counted matter. -/
theorem att_congr (n q : ℕ) (z : ℕ → ℝ) (v u : ℕ → EReal) (h : ∀ key, key < n → v key = u key) : att n q z v = att n q z u := by
  unfold att part
  rw [Finset.sum_congr rfl fun key hk => congrArg (HMul.hMul ((wt q z key : ℝ) : EReal)) (h key (Finset.mem_range.mp hk))]

/-- A power of two is positive. -/
theorem two_pow_pos (r : ℝ) : 0 < Real.rpow 2 r := Real.rpow_pos_of_pos two_pos r

/-- A weight isn't negative. -/
theorem wt_nonneg (q : ℕ) (z : ℕ → ℝ) (key : ℕ) : 0 ≤ wt q z key := by
  unfold wt
  split
  · exact (Real.rpow_pos_of_pos two_pos _).le
  · exact le_rfl

/-- The weights of at least one key add up to something positive. -/
theorem wt_sum_pos (n q : ℕ) (z : ℕ → ℝ) (hn : 0 < n) : 0 < ∑ key ∈ Finset.range n, wt q z key := by
  refine Finset.sum_pos' (fun i _ => wt_nonneg q z i) ⟨0, Finset.mem_range.mpr hn, ?_⟩
  rw [wt, if_pos (Nat.zero_le q)]
  exact Real.rpow_pos_of_pos two_pos _

/-- A nonnegative real factor goes through a sum of extended reals. -/
theorem mul_sum_coe {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A sum of real numbers is the sum of them as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- The exponential of a masked logit below a maximum. -/
theorem exp2_lm (q : ℕ) (z : ℕ → ℝ) (key : ℕ) (M : ℝ) :
    Ideal.exp2 (lm q z key - (M : EReal)) = ((Real.rpow 2 (-M) * wt q z key : ℝ) : EReal) := by
  unfold lm wt
  split
  · rw [← EReal.coe_sub, Ideal.exp2_coe]
    congr 1
    show (2 : ℝ) ^ (z key - M) = (2 : ℝ) ^ (-M) * (2 : ℝ) ^ (z key)
    rw [← Real.rpow_add two_pos]
    congr 1; ring
  · simp

/-- The part one tile adds, in units of the new maximum. -/
theorem part_tile (q : ℕ) (z : ℕ → ℝ) (v : ℕ → EReal) (a n : ℕ) (M : ℝ) :
    ∑ y ∈ Finset.range n, v (a + y) * Ideal.exp2 (lm q z (a + y) - (M : EReal))
      = ((Real.rpow 2 (-M) : ℝ) : EReal) * ∑ y ∈ Finset.range n, (wt q z (a + y) : EReal) * v (a + y) := by
  rw [mul_sum_coe _ _ (two_pow_pos _).le]
  refine Finset.sum_congr rfl fun y _ => ?_
  rw [exp2_lm, EReal.coe_mul, mul_comm, mul_assoc]

/-- One step of the running softmax. -/
theorem part_step (q : ℕ) (z : ℕ → ℝ) (v : ℕ → EReal) (a n : ℕ) (M M' : ℝ) :
    Ideal.exp2 ((M : EReal) - (M' : EReal)) * (((Real.rpow 2 (-M) : ℝ) : EReal) * part q z v a)
        + ∑ y ∈ Finset.range n, v (a + y) * Ideal.exp2 (lm q z (a + y) - (M' : EReal))
      = ((Real.rpow 2 (-M') : ℝ) : EReal) * part q z v (a + n) := by
  have hc : (0 : ℝ) ≤ Real.rpow 2 (-M') := (two_pow_pos _).le
  have e : Ideal.exp2 ((M : EReal) - (M' : EReal)) * ((Real.rpow 2 (-M) : ℝ) : EReal) = ((Real.rpow 2 (-M') : ℝ) : EReal) := by
    rw [← EReal.coe_sub, Ideal.exp2_coe, ← EReal.coe_mul]
    congr 1
    show (2 : ℝ) ^ (M - M') * (2 : ℝ) ^ (-M) = (2 : ℝ) ^ (-M')
    rw [← Real.rpow_add two_pos]
    congr 1; ring
  rw [part_tile, ← mul_assoc, e, part, part, Finset.sum_range_add]
  exact (EReal.left_distrib_of_nonneg_of_ne_top (EReal.coe_nonneg.mpr hc) (EReal.coe_ne_top _) _ _).symm

/-- A positive real's quotient. -/
theorem div_real (x : EReal) {y : ℝ} (hy : 0 < y) : Ideal.div x (y : EReal) = x * ((y⁻¹ : ℝ) : EReal) := by
  rw [Ideal.div_coe hy.ne', one_div]

/-- The quotient of the weighted values by the weights, in units of any maximum. -/
theorem part_div (n q : ℕ) (z : ℕ → ℝ) (v u : ℕ → EReal) (hu : ∀ key, key < n → u key = 1) (hn : 0 < n) (M : ℝ) :
    Ideal.div (((Real.rpow 2 (-M) : ℝ) : EReal) * part q z v n) (((Real.rpow 2 (-M) : ℝ) : EReal) * part q z u n) = att n q z v := by
  have hc : (0 : ℝ) < Real.rpow 2 (-M) := two_pow_pos _
  have hw := wt_sum_pos n q z hn
  have e : part q z u n = ((∑ key ∈ Finset.range n, wt q z key : ℝ) : EReal) := by
    rw [part, coe_sum]
    exact Finset.sum_congr rfl fun key hk => by rw [hu key (Finset.mem_range.mp hk), mul_one]
  rw [e, ← EReal.coe_mul, div_real _ (mul_pos hc hw), att, mul_comm ((Real.rpow 2 (-M) : ℝ) : EReal), mul_assoc, ← EReal.coe_mul]
  congr 2
  rw [mul_inv, ← mul_assoc, mul_inv_cancel₀ hc.ne', one_mul]

/-- The maximum of reals and bottoms, one of them a real, is a real. -/
theorem fold_max_real {ι : Type} (s : Finset ι) (f : ι → EReal) (ht : ∀ i ∈ s, f i ≠ ⊤) (i : ι) (hi : i ∈ s) (hb : f i ≠ ⊥) :
    ∃ M : ℝ, s.fold max ⊥ f = (M : EReal) := by
  have h1 : s.fold max ⊥ f ≠ ⊤ := by
    classical
    have : ∀ t : Finset ι, (∀ i ∈ t, f i ≠ ⊤) → t.fold max ⊥ f ≠ ⊤ := by
      intro t
      induction t using Finset.induction_on with
      | empty => intro _; simp
      | insert a t ha ih =>
        intro h
        rw [Finset.fold_insert ha]
        have h1 := h a (Finset.mem_insert_self _ _)
        have h2 := ih fun i hi => h i (Finset.mem_insert_of_mem hi)
        rcases max_choice (f a) (t.fold max ⊥ f) with e | e <;> rw [e] <;> assumption
    exact this s ht
  have h2 : f i ≤ s.fold max ⊥ f := Finset.le_fold_max (b := ⊥) (f := f) (s := s) (f i) |>.mpr (.inr ⟨i, hi, le_rfl⟩)
  have h3 : s.fold max ⊥ f ≠ ⊥ := fun e => hb (le_bot_iff.mp (e ▸ h2))
  exact ⟨(s.fold max ⊥ f).toReal, (EReal.coe_toReal h1 h3).symm⟩

/-- A masked logit is no top. -/
theorem lm_ne_top (q : ℕ) (z : ℕ → ℝ) (key : ℕ) : lm q z key ≠ ⊤ := by
  unfold lm; split <;> simp

/-- A masked logit up to the query is no bottom. -/
theorem lm_ne_bot (q : ℕ) (z : ℕ → ℝ) (key : ℕ) (h : key ≤ q) : lm q z key ≠ ⊥ := by
  rw [lm, if_pos h]; simp

/-- The softmax over all keys at once, in base e: logits shifted by one real for all keys, times the
    natural logarithm of two, lowered by any real. -/
theorem att_exp (n q : ℕ) (z : ℕ → ℝ) (v : ℕ → EReal) (hn : 0 < n) (c m : ℝ) (f : ℕ → EReal)
    (hf : ∀ key, key < n → f key = Ideal.exp ((if key ≤ q then ((z key + c : ℝ) : EReal) else ⊥) * (Real.log 2 : EReal) - (m : EReal))) :
    ∑ key ∈ Finset.range n, v key * Ideal.div (f key) (∑ key ∈ Finset.range n, f key) = att n q z v := by
  set κ : ℝ := Real.exp (c * Real.log 2 - m) with hκ
  have hκ0 : 0 < κ := Real.exp_pos _
  have hl : (0 : ℝ) < Real.log 2 := Real.log_pos one_lt_two
  have hw := wt_sum_pos n q z hn
  have e : ∀ key, key < n → f key = ((κ * wt q z key : ℝ) : EReal) := by
    intro key hk
    rw [hf key hk, wt]
    split
    · rw [← EReal.coe_mul, ← EReal.coe_sub, Ideal.exp_coe]
      congr 1
      show _ = κ * (2 : ℝ) ^ (z key)
      rw [hκ, Real.rpow_def_of_pos two_pos, ← Real.exp_add]
      congr 1; ring
    · rw [EReal.bot_mul_coe_of_pos hl]; simp
  have es : ∑ key ∈ Finset.range n, f key = ((κ * ∑ key ∈ Finset.range n, wt q z key : ℝ) : EReal) := by
    rw [Finset.mul_sum, coe_sum]
    exact Finset.sum_congr rfl fun key hk => e key (Finset.mem_range.mp hk)
  rw [es, att, part, mul_comm (∑ key ∈ Finset.range n, (wt q z key : EReal) * v key), mul_sum_coe _ _ (inv_pos.mpr hw).le]
  refine Finset.sum_congr rfl fun key hk => ?_
  rw [e key (Finset.mem_range.mp hk), div_real _ (mul_pos hκ0 hw), ← EReal.coe_mul, mul_comm (v key), ← mul_assoc, ← EReal.coe_mul]
  congr 2
  field_simp

end Cert.Fox

end
-- ==== Proof.Fox.Tile.lean ====
/- A tile of logits read at an index, the floats being extended reals: the masked logit of one key
   for one query. -/
module

public import proofs.«01_k».proof.Proof.Fox.Model
public import proofs.«01_k».proof.Proof.Fox.Softmax
public import Idealize.ShloMosaic.Lib.MatmulPlain
public import Idealize.ShloMosaic.Lib.ValueLayout
public import Idealize.ShloMosaic.Lib.ValueIdx
public import Idealize.ShloMosaic.Lib.Pointwise.Sums
public import Idealize.ShloMosaic.Lib.IdealHost

@[expose] public section

noncomputable section

namespace Cert.Fox

open Idealize.ShloMosaic hiding ix0 ix1 ix2 ix3 ix4 ix5
open Idealize.SL.Sem
open Idealize.ShloMosaic.ValueIdx

/-- A matrix read at natural numbers, zero outside. -/
def get2 {a b : ℕ} (f : (Sh2 a b).Idx → EReal) (i j : ℕ) : EReal :=
  if h : i < a ∧ j < b then f (ix2 ⟨i, h.1⟩ ⟨j, h.2⟩) else 0
/-- The same at rank three. -/
def get3 {a b c : ℕ} (f : (Sh3 a b c).Idx → EReal) (i j k : ℕ) : EReal :=
  if h : i < a ∧ j < b ∧ k < c then f (ix3 ⟨i, h.1⟩ ⟨j, h.2.1⟩ ⟨k, h.2.2⟩) else 0
/-- The same at rank four. -/
def get4 {a b c d : ℕ} (f : (Sh4 a b c d).Idx → EReal) (i j k l : ℕ) : EReal :=
  if h : i < a ∧ j < b ∧ k < c ∧ l < d then f (ix4 ⟨i, h.1⟩ ⟨j, h.2.1⟩ ⟨k, h.2.2.1⟩ ⟨l, h.2.2.2⟩) else 0

/-- An entry by its two coordinates. -/
theorem get2_of {a b : ℕ} (f : (Sh2 a b).Idx → EReal) (x : (Sh2 a b).Idx) (i j : ℕ) (h0 : (x 0).val = i) (h1 : (x 1).val = j) :
    f x = get2 f i j := by
  subst h0 h1
  rw [get2, dif_pos ⟨(x 0).isLt, (x 1).isLt⟩]
  exact congrArg f (ValueIdx.eq_ix2 x)
/-- An entry by its three coordinates. -/
theorem get3_of {a b c : ℕ} (f : (Sh3 a b c).Idx → EReal) (x : (Sh3 a b c).Idx) (i j k : ℕ) (h0 : (x 0).val = i) (h1 : (x 1).val = j)
    (h2 : (x 2).val = k) : f x = get3 f i j k := by
  subst h0 h1 h2
  rw [get3, dif_pos ⟨(x 0).isLt, (x 1).isLt, (x 2).isLt⟩]
  exact congrArg f (ValueIdx.eq_ix3 x)
/-- An entry by its four coordinates. -/
theorem get4_of {a b c d : ℕ} (f : (Sh4 a b c d).Idx → EReal) (x : (Sh4 a b c d).Idx) (i j k l : ℕ) (h0 : (x 0).val = i) (h1 : (x 1).val = j)
    (h2 : (x 2).val = k) (h3 : (x 3).val = l) : f x = get4 f i j k l := by
  subst h0 h1 h2 h3
  rw [get4, dif_pos ⟨(x 0).isLt, (x 1).isLt, (x 2).isLt, (x 3).isLt⟩]
  exact congrArg f (ValueIdx.eq_ix4 x)

/-- What the inputs hold: the logits are real, the mask is the causal one, and the weight row of
    either head's values holds ones. -/
structure Holds (I : Ins Ideal) (z : Bool → ℕ → ℕ → ℝ) : Prop where
  raw : ∀ (j : Bool) (key q : ℕ), key < 4096 → q < 4096 →
    (∑ d : Fin 64, get3 (I .k) 0 key (64 * j.toNat + d) * get3 (I .qt) 0 (64 * j.toNat + d) q)
      + ∑ l : Fin 128, get3 (I .dec) 0 key l * get4 (I .ones) 0 j.toNat l (q % 512) = (z j q key : EReal)
  mask : ∀ y x : ℕ, y < 512 → x < 512 → get2 (I .mask) y x = if y ≤ x then 0 else ⊥
  one : ∀ (j : Bool) (key : ℕ), key < 4096 → get3 (I .vt) 0 (80 * j.toNat + 64) key = 1

variable (I : Ins Ideal)

/-- The keys next to the decay columns: the first 128 columns. -/
theorem keys_left (s : Step Ideal) (a b : FVec Ideal (Sh3 1 s.nk 128) .bf16) (y : Fin s.nk) (k : Fin 256) (h : k.val < 128) :
    keys s a b (ix2 y k) = a (ix3 0 y ⟨k.val, h⟩) := by
  unfold keys
  rw [concatenate_pair_apply_left (t := Sh2 s.nk 256) 1 _ _ (catK s.hnk) (ix2 y k) rfl (ix2 y ⟨k.val, h⟩)
    (fun c => by fin_cases c <;> rfl)]
  exact shapeCast_1ab_ab_apply a _ y _

/-- The keys next to the decay columns: the last 128 columns. -/
theorem keys_right (s : Step Ideal) (a b : FVec Ideal (Sh3 1 s.nk 128) .bf16) (y : Fin s.nk) (k : Fin 128) (k' : Fin 256)
    (h : k'.val = 128 + k.val) : keys s a b (ix2 y k') = b (ix3 0 y k) := by
  unfold keys
  rw [concatenate_pair_apply_right (t := Sh2 s.nk 256) 1 _ _ (catK s.hnk) (ix2 y k') rfl rfl (ix2 y k)
    (fun c hc => by
      fin_cases c
      · rfl
      · exact absurd rfl hc) (by show k.val + 128 = k'.val; omega)]
  exact shapeCast_1ab_ab_apply b _ y _

/-- A matrix under a unit leading pair of axes. -/
theorem cast4_apply (x : FVec Ideal (Sh4 1 1 128 512) .bf16) (k : Fin 128) (c : Fin 512) :
    shapeCast (Sh2 128 512) x (cast4 128 512) (ix2 k c) = x (ix4 0 0 k c) :=
  shapeCast_apply x _ _ _ (by
    rw [Shape.rowMajor_val_four, Shape.rowMajor_val_two]
    show ((0 * 1 + 0) * 128 + k.val) * 512 + c.val = k.val * 512 + c.val
    omega)

/-- Three matrices stacked. -/
abbrev cat3 (A B : FVec Ideal (Sh2 64 512) .bf16) (C : FVec Ideal (Sh2 128 512) .bf16) : FVec Ideal (Sh2 256 512) .bf16 :=
  concatenate (Sh2 256 512) 0 [⟨Sh2 64 512, A⟩, ⟨Sh2 64 512, B⟩, ⟨Sh2 128 512, C⟩] catQ

section Stack
variable (A B : FVec Ideal (Sh2 64 512) .bf16) (C : FVec Ideal (Sh2 128 512) .bf16) (k' : Fin 256) (c : Fin 512)

/-- The first piece. -/
theorem cat3_first (k : Fin 64) (h : k'.val = k.val) : cat3 A B C (ix2 k' c) = A (ix2 k c) :=
  concatenate_apply_piece (t := Sh2 256 512) 0 [⟨Sh2 64 512, A⟩, ⟨Sh2 64 512, B⟩, ⟨Sh2 128 512, C⟩] catQ (ix2 k' c)
    0 (Nat.succ_pos 2) (Sh2 64 512) A rfl rfl 0 rfl (ix2 k c)
    (fun b hb => by
      fin_cases b
      · exact absurd rfl hb
      · rfl) (by show 0 + k.val = k'.val; omega)

/-- The second piece. -/
theorem cat3_second (k : Fin 64) (h : k'.val = 64 + k.val) : cat3 A B C (ix2 k' c) = B (ix2 k c) :=
  concatenate_apply_piece (t := Sh2 256 512) 0 [⟨Sh2 64 512, A⟩, ⟨Sh2 64 512, B⟩, ⟨Sh2 128 512, C⟩] catQ (ix2 k' c)
    1 (Nat.succ_lt_succ (Nat.succ_pos 1)) (Sh2 64 512) B rfl rfl 64 rfl (ix2 k c)
    (fun b hb => by
      fin_cases b
      · exact absurd rfl hb
      · rfl) (by show 64 + k.val = k'.val; omega)

/-- The third piece. -/
theorem cat3_third (k : Fin 128) (h : k'.val = 128 + k.val) : cat3 A B C (ix2 k' c) = C (ix2 k c) :=
  concatenate_apply_piece (t := Sh2 256 512) 0 [⟨Sh2 64 512, A⟩, ⟨Sh2 64 512, B⟩, ⟨Sh2 128 512, C⟩] catQ (ix2 k' c)
    2 (Nat.lt_succ_self 2) (Sh2 128 512) C rfl rfl 128 rfl (ix2 k c)
    (fun b hb => by
      fin_cases b
      · exact absurd rfl hb
      · rfl) (by show 128 + k.val = k'.val; omega)
end Stack

/-- The stacked queries: the head's own rows. -/
theorem bigQ_own (j : Bool) (q : FVec Ideal (Sh3 1 64 512) .bf16) (o : FVec Ideal (Sh4 1 1 128 512) .bf16) (k : Fin 64) (k' : Fin 256)
    (c : Fin 512) (h : k'.val = 64 * j.toNat + k.val) : bigQ j q o (ix2 k' c) = q (ix3 0 k c) := by
  refine Eq.trans ?_ (shapeCast_1ab_ab_apply q (cast3 64 512) k c)
  cases j
  · exact cat3_first _ _ _ k' c k (by simpa using h)
  · exact cat3_second _ _ _ k' c k (by simpa using h)

/-- The zeros of the stacked queries. -/
theorem zero64_apply (i : (Sh2 64 512).Idx) : (zero64 : FVec Ideal (Sh2 64 512) .bf16) i = (0 : EReal) := Ideal.ofBits_zero_bf16

/-- The stacked queries: the other head's rows. -/
theorem bigQ_other (j : Bool) (q : FVec Ideal (Sh3 1 64 512) .bf16) (o : FVec Ideal (Sh4 1 1 128 512) .bf16) (k : Fin 64) (k' : Fin 256)
    (c : Fin 512) (h : k'.val = 64 * (!j).toNat + k.val) : bigQ j q o (ix2 k' c) = (0 : EReal) := by
  refine Eq.trans ?_ (zero64_apply (ix2 k c))
  cases j
  · exact cat3_second _ _ _ k' c k (by simpa using h)
  · exact cat3_first _ _ _ k' c k (by simpa using h)

/-- The stacked queries: the rows that select the decay columns. -/
theorem bigQ_ones (j : Bool) (q : FVec Ideal (Sh3 1 64 512) .bf16) (o : FVec Ideal (Sh4 1 1 128 512) .bf16) (k : Fin 128) (k' : Fin 256)
    (c : Fin 512) (h : k'.val = 128 + k.val) : bigQ j q o (ix2 k' c) = o (ix4 0 0 k c) := by
  refine Eq.trans ?_ (cast4_apply o k c)
  cases j
  · exact cat3_third _ _ _ k' c k h
  · exact cat3_third _ _ _ k' c k h

/-- The step's columns of the stacked queries. -/
theorem cut_apply (s : Step Ideal) (g : FVec Ideal (Sh2 256 512) .bf16) (k : Fin 256) (x : Fin s.nc) :
    s.cut g (ix2 k x) = g (ix2 k ⟨s.c0 + x.val, by have := s.hc; have := x.isLt; omega⟩) := by
  obtain ⟨j', h0, h1, h2⟩ := s.hcut g (ix2 k x)
  rw [h2]
  refine congrArg g (funext fun a => Fin.ext ?_)
  fin_cases a
  · exact h0
  · exact h1

/-- A sum over the 256 stacked rows: the two heads' rows and the decay columns. -/
theorem sum256 (f : Fin 256 → EReal) : ∑ k, f k = (∑ k : Fin 64, f ⟨k.val, by omega⟩ + ∑ k : Fin 64, f ⟨64 + k.val, by omega⟩)
    + ∑ k : Fin 128, f ⟨128 + k.val, by omega⟩ := by
  rw [Fin.sum_univ_two_halves 128 128 rfl f, Fin.sum_univ_two_halves 64 64 rfl (fun k : Fin 128 => f ⟨k.val, _⟩)]

/-- The logits before the mask at one key and query. -/
theorem raw_apply (s : Step Ideal) (j : Bool) (y : Fin s.nk) (x : Fin s.nc) :
    rawLogits s (keys s (rd (I .k) s.rK.toLoadRect) (rd (I .dec) s.rK.toLoadRect))
      (bigQ j (rd (I .qt) (s.rQ j).toLoadRect) (rd (I .ones) (rO j).toLoadRect)) (ix2 y x)
    = (∑ d : Fin 64, get3 (I .k) 0 (512 * s.t + y) (64 * j.toNat + d) * get3 (I .qt) 0 (64 * j.toNat + d) (512 * s.v + (s.c0 + x)))
      + ∑ l : Fin 128, get3 (I .dec) 0 (512 * s.t + y) l * get4 (I .ones) 0 j.toNat l (s.c0 + x) := by
  have hx : s.c0 + x.val < 512 := by have := s.hc; have := x.isLt; omega
  unfold rawLogits
  simp only [matmul]
  refine (Ideal.matmul_plain_apply none _ _ _ y x).trans ?_
  have h0 : (constant (F := Ideal) (Sh2 s.nk s.nc) .f32 0x00000000#32) (ix2 y x) = (0 : EReal) := Ideal.ofBits_zero_f32
  have hk : ∀ (k : Fin 128), rd (I .k) s.rK.toLoadRect (ix3 0 y k) = get3 (I .k) 0 (512 * s.t + y) k := fun k =>
    get3_of (I .k) (s.rK.toLoadRect.idx (ix3 0 y k)) _ _ _ rfl (by show s.t * 512 + 1 * y.val = _; omega) (by show 0 + 1 * k.val = _; omega)
  have hd : ∀ (k : Fin 128), rd (I .dec) s.rK.toLoadRect (ix3 0 y k) = get3 (I .dec) 0 (512 * s.t + y) k := fun k =>
    get3_of (I .dec) (s.rK.toLoadRect.idx (ix3 0 y k)) _ _ _ rfl (by show s.t * 512 + 1 * y.val = _; omega) (by show 0 + 1 * k.val = _; omega)
  have hq : ∀ (k : Fin 64), rd (I .qt) (s.rQ j).toLoadRect (ix3 0 k ⟨s.c0 + x.val, hx⟩) = get3 (I .qt) 0 (64 * j.toNat + k) (512 * s.v + (s.c0 + x)) := fun k =>
    get3_of (I .qt) ((s.rQ j).toLoadRect.idx (ix3 0 k ⟨s.c0 + x.val, hx⟩)) _ _ _ rfl (by show 64 * j.toNat + 1 * k.val = _; omega) (by show s.v * 512 + 1 * (s.c0 + x.val) = _; omega)
  have ho : ∀ (k : Fin 128), rd (I .ones) (rO j).toLoadRect (ix4 0 0 k ⟨s.c0 + x.val, hx⟩) = get4 (I .ones) 0 j.toNat k (s.c0 + x) := fun k =>
    get4_of (I .ones) ((rO j).toLoadRect.idx (ix4 0 0 k ⟨s.c0 + x.val, hx⟩)) _ _ _ _ rfl (by show j.toNat + 1 * 0 = _; omega) (by show 0 + 1 * k.val = _; omega) (by show 0 + 1 * (s.c0 + x.val) = _; omega)
  rw [h0, zero_add, sum256]
  refine congrArg₂ (· + ·) ?_ (Finset.sum_congr rfl fun k _ => ?_)
  · cases j
    · rw [show ∀ a b c : EReal, a = c → b = 0 → a + b = c from fun a b c h1 h2 => by rw [h1, h2, add_zero]]
      · refine Finset.sum_congr rfl fun k _ => ?_
        rw [keys_left s _ _ y ⟨k.val, _⟩ (by show k.val < 128; omega), cut_apply, bigQ_own false _ _ k ⟨k.val, _⟩ _ (by simp), hk, hq]
        simp
      · refine Finset.sum_eq_zero fun k _ => ?_
        rw [cut_apply, bigQ_other false _ _ k ⟨64 + k.val, _⟩ _ (by simp), mul_zero]
    · rw [show ∀ a b c : EReal, b = c → a = 0 → a + b = c from fun a b c h1 h2 => by rw [h1, h2, zero_add]]
      · refine Finset.sum_congr rfl fun k _ => ?_
        rw [keys_left s _ _ y ⟨64 + k.val, _⟩ (by show 64 + k.val < 128; omega), cut_apply, bigQ_own true _ _ k ⟨64 + k.val, _⟩ _ (by simp), hk, hq]
        simp
      · refine Finset.sum_eq_zero fun k _ => ?_
        rw [cut_apply, bigQ_other true _ _ k ⟨k.val, _⟩ _ (by simp), mul_zero]
  · rw [keys_right s _ _ y k ⟨128 + k.val, _⟩ rfl, cut_apply, bigQ_ones j _ _ k ⟨128 + k.val, _⟩ _ rfl, hd, ho]

variable {I} {z : Bool → ℕ → ℕ → ℝ}

/-- A tile of logits at one key and query: the logit, or minus infinity behind the mask. -/
theorem tile_apply (H : Holds I z) (s : Step Ideal) (j : Bool) (y : Fin s.nk) (x : Fin s.nc) :
    tile I s j (ix2 y x) = lm (512 * s.v + (s.c0 + x)) (z j (512 * s.v + (s.c0 + x))) (512 * s.t + y) := by
  have hx : s.c0 + x.val < 512 := by have := s.hc; have := x.isLt; omega
  have hy : y.val < 512 := by have := s.nk512; have := y.isLt; omega
  have hv := s.hv
  have ht := s.ht
  have hr := raw_apply I s j y x
  have hz := H.raw j (512 * s.t + y) (512 * s.v + (s.c0 + x)) (by omega) (by omega)
  rw [show (512 * s.v + (s.c0 + x.val)) % 512 = s.c0 + x.val by omega] at hz
  rw [hz] at hr
  unfold tile lm
  by_cases h : s.t = s.v
  · rw [if_pos h]
    refine (addf_apply _ _ _).trans ?_
    rw [hr]
    have hs : shapeCast (Sh2 s.nk s.nc) (rd (I .mask) s.rB.toLoadRect) (cast2 _ _) = rd (I .mask) s.rB.toLoadRect := shapeCast_self _ _
    have hm : rd (I .mask) s.rB.toLoadRect (ix2 y x) = get2 (I .mask) y (s.c0 + x) :=
      get2_of (I .mask) (s.rB.toLoadRect.idx (ix2 y x)) _ _ (by show 0 + 1 * y.val = _; omega) (by show s.c0 + 1 * x.val = _; omega)
    refine (congrArg (_ + ·) ((congrFun hs (ix2 y x)).trans hm)).trans ?_
    rw [H.mask _ _ hy hx, h]
    by_cases hle : y.val ≤ s.c0 + x.val
    · rw [if_pos hle, if_pos (by omega), add_zero]
    · rw [if_neg hle, if_neg (by omega), EReal.add_bot]
  · rw [if_neg h, if_pos (by omega)]
    exact hr

end Cert.Fox
end
-- ==== Proof.Fox.Logit.lean ====
/- The whole call's logits as real numbers, from its arguments: what both sides compute the softmax
   of. -/
module

public import proofs.«01_k».proof.Proof.Fox.Tile

@[expose] public section

noncomputable section

namespace Cert.Fox

open Idealize.ShloMosaic hiding ix0 ix1 ix2 ix3 ix4 ix5
open Idealize.SL.Sem
open Idealize.ShloMosaic.ValueIdx

/-- The real number under an entry. -/
def num {a b c : ℕ} (f : (Sh3 a b c).Idx → EReal) (i j k : ℕ) : ℝ := (get3 f i j k).toReal

/-- An entry that is a real number. -/
theorem get3_real {a b c : ℕ} (f : (Sh3 a b c).Idx → EReal) (i j k : ℕ)
    (h : ∀ x : (Sh3 a b c).Idx, (x 2).val = k → ∃ r : ℝ, f x = (r : EReal)) : get3 f i j k = ((num f i j k : ℝ) : EReal) := by
  have : ∃ r : ℝ, get3 f i j k = (r : EReal) := by
    unfold get3
    split
    · exact h _ rfl
    · exact ⟨0, rfl⟩
  obtain ⟨r, hr⟩ := this
  rw [num, hr, EReal.toReal_coe]

/-- The arguments of the call. -/
structure Args where
  qt : (Sh3 8 1024 4096).Idx → EReal
  k : (Sh3 8 4096 1024).Idx → EReal
  vt : (Sh3 8 1280 4096).Idx → EReal
  dec : (Sh3 8 4096 128).Idx → EReal

/-- What the precondition says of the arguments. -/
structure Args.Good (A : Args) : Prop where
  qt : ∀ x, ∃ r : ℝ, A.qt x = (r : EReal)
  k : ∀ x, ∃ r : ℝ, A.k x = (r : EReal)
  dec : ∀ x : (Sh3 8 4096 128).Idx, (x 2).val < 48 → ∃ r : ℝ, A.dec x = (r : EReal)
  one : ∀ b h t : ℕ, b < 8 → h < 16 → t < 4096 → get3 A.vt b (80 * h + 64) t = 1

variable (A : Args)

/-- The inner product of a key and a query of head `h`. -/
def inner (b h q key : ℕ) : ℝ := ∑ d : Fin 64, num A.qt b (64 * h + d) q * num A.k b key (64 * h + d)
/-- The decay of a key for head `h`: its three limbs together. -/
def limbs (b h key : ℕ) : ℝ := ∑ l : Fin 3, num A.dec b key (3 * h + l)
/-- The logit of a key for a query of head `h`, short of what depends on the query alone. -/
def logit (b h q key : ℕ) : ℝ := inner A b h q key + limbs A b h key

variable {A}

/-- The inner product, in extended reals, keys first. -/
theorem inner_eq (G : A.Good) (b h q key : ℕ) :
    ∑ d : Fin 64, get3 A.k b key (64 * h + d) * get3 A.qt b (64 * h + d) q = (inner A b h q key : EReal) := by
  rw [inner, coe_sum]
  refine Finset.sum_congr rfl fun d _ => ?_
  rw [get3_real _ _ _ _ fun x _ => G.k x, get3_real _ _ _ _ fun x _ => G.qt x, mul_comm, EReal.coe_mul]

/-- The decay, in extended reals. -/
theorem limbs_eq (G : A.Good) (b h key : ℕ) (hh : h < 16) :
    ∑ l : Fin 3, get3 A.dec b key (3 * h + l) = (limbs A b h key : EReal) := by
  rw [limbs, coe_sum]
  exact Finset.sum_congr rfl fun l _ => get3_real _ _ _ _ fun x hx => G.dec x (by omega)

/-- The decay read by an indicator over all lanes: the other lanes count nothing. -/
theorem lanes_eq (G : A.Good) (b h key : ℕ) (hh : h < 16) (o : Fin 128 → EReal)
    (ho : ∀ l : Fin 128, o l = if 3 * h ≤ l.val ∧ l.val < 3 * h + 3 then 1 else 0) :
    ∑ l : Fin 128, get3 A.dec b key l * o l = (limbs A b h key : EReal) := by
  rw [← limbs_eq G b h key hh]
  have e : ∀ l : Fin 128, get3 A.dec b key l * o l = if 3 * h ≤ l.val ∧ l.val < 3 * h + 3 then get3 A.dec b key l else 0 := by
    intro l
    rw [ho l]
    split <;> simp
  rw [Finset.sum_congr rfl fun l _ => e l, ← Finset.sum_filter]
  refine (Finset.sum_bij (fun (l : Fin 3) _ => (⟨3 * h + l.val, by omega⟩ : Fin 128)) (fun l _ => ?_) (fun l _ l' _ hl => ?_) (fun l hl => ?_)
    (fun l _ => rfl)).symm
  · rw [Finset.mem_filter]
    exact ⟨Finset.mem_univ _, Nat.le_add_right _ _, by have := l.isLt; show 3 * h + l.val < _; omega⟩
  · have := congrArg Fin.val hl
    exact Fin.ext (by simpa using this)
  · rw [Finset.mem_filter] at hl
    exact ⟨⟨l.val - 3 * h, by omega⟩, Finset.mem_univ _, Fin.ext (by show 3 * h + (l.val - 3 * h) = l.val; omega)⟩

end Cert.Fox

end
-- ==== Proof.Fox.Fold.lean ====
/- The loop's fold, the floats being extended reals: after each step the running state of a column
   is the sum of its weighted values so far, in units of some real maximum, so a row block ends with
   the attention of its queries. -/
module

public import proofs.«01_k».proof.Proof.Fox.Tile

@[expose] public section

noncomputable section

namespace Cert.Fox

open Idealize.ShloMosaic hiding ix0 ix1 ix2 ix3 ix4 ix5
open Idealize.SL.Sem
open Idealize.ShloMosaic.ValueIdx

variable {I : Ins Ideal} {z : Bool → ℕ → ℕ → ℝ}

/-- The word of minus infinity. -/
theorem ofBits_bot : Ideal.ofBits .f32 0xFF800000#32 = ⊥ := by
  simp [Ideal.ofBits, Ideal.ieee]

/-! ## One tile -/

/-- The column maximum of a tile is a real. -/
theorem tileM_real (H : Holds I z) (s : Step Ideal) (j : Bool) (x : Fin s.nc) : ∃ M : ℝ, tileM I s j (ix2 0 x) = (M : EReal) := by
  have e : tileM I s j (ix2 0 x) = (Finset.univ : Finset (Fin s.nk)).fold max ⊥ (fun y => tile I s j (ix2 y x)) := by
    unfold tileM tileX colMax
    refine (shapeCast_1ab_ab_apply _ _ 0 x).trans ((shapeCast_ab_1ab_apply _ _ 0 0 x).trans ((shapeCast_a_1a_apply _ _ 0 x).trans ?_))
    refine (Ideal.multiReduction_maximumf_single (s := Sh2 s.nk s.nc) (a := 0) _ _ (red s.hnk s.hnc) _ _ (ix1 x)).trans ?_
    show Finset.univ.fold max (Ideal.ofBits .f32 0xFF800000#32) _ = _
    rw [ofBits_bot]
    refine Finset.fold_congr fun y _ => ?_
    refine congrArg (tile I s j) (funext fun a => Fin.ext ?_)
    fin_cases a <;> rfl
  rw [e]
  refine fold_max_real _ _ (fun y _ => ?_) ⟨0, s.nk0⟩ (Finset.mem_univ _) ?_
  · rw [tile_apply H]; exact lm_ne_top _ _ _
  · rw [tile_apply H]
    refine lm_ne_bot _ _ _ ?_
    have := s.ht
    show 512 * s.t + 0 ≤ _
    omega

/-- The values of head `j` at a row, by the key. -/
def val (I : Ins Ideal) (j : Bool) (r key : ℕ) : EReal := get3 (I .vt) 0 (80 * j.toNat + r) key

/-- A tile's values weighted in units of a real maximum. -/
theorem weigh_apply (H : Holds I z) (s : Step Ideal) (j : Bool) (mx : FVec Ideal (Sh2 1 s.nc) .f32) (M : ℝ) (r : Fin 80) (x : Fin s.nc)
    (hM : mx (ix2 0 x) = (M : EReal)) :
    weigh s (rd (I .vt) (s.rV j).toLoadRect) (tileS I s j) mx (ix2 r x)
      = ∑ y ∈ Finset.range s.nk, val I j r (512 * s.t + y)
          * Ideal.exp2 (lm (512 * s.v + (s.c0 + x)) (z j (512 * s.v + (s.c0 + x))) (512 * s.t + y) - (M : EReal)) := by
  unfold weigh
  simp only [matmul]
  refine (Ideal.matmul_plain_apply none _ _ _ r x).trans ?_
  have h0 : (constant (F := Ideal) (Sh2 80 s.nc) .f32 0x00000000#32) (ix2 r x) = (0 : EReal) := Ideal.ofBits_zero_f32
  rw [h0, zero_add, Finset.sum_range]
  refine Finset.sum_congr rfl fun y _ => congrArg₂ (· * ·) ?_ ?_
  · refine (shapeCast_1ab_ab_apply _ _ r y).trans ?_
    exact get3_of (I .vt) ((s.rV j).toLoadRect.idx (ix3 0 r y)) _ _ _ rfl (by show 80 * j.toNat + 1 * r.val = _; omega)
      (by show s.t * 512 + 1 * y.val = _; omega)
  · refine congrArg Ideal.exp2 ((subf_apply _ _ (ix2 y x)).trans (congrArg₂ (· - ·) ?_ ?_))
    · refine (shapeCast_1ab_ab_apply _ _ y x).trans ((shapeCast_ab_1ab_apply _ _ 0 y x).trans (tile_apply H s j y x))
    · exact (broadcastTo_1b_ab_apply mx _ y x).trans hM

/-- The running state of a column holds the weighted values of the first `n` keys. -/
def Col (I : Ins Ideal) (z : Bool → ℕ → ℕ → ℝ) (j : Bool) (v n : ℕ) (ma : MA Ideal) (col : Fin 512) : Prop :=
  ∃ M : ℝ, ma.1 (ix2 0 col) = (M : EReal) ∧ ∀ r : Fin 80, ma.2 (ix2 r col)
    = ((Real.rpow 2 (-M) : ℝ) : EReal) * part (512 * v + col) (z j (512 * v + col)) (val I j r) n

/-- A matrix overwritten in some columns, read in one of them. -/
theorem over_in {A nc c0 : ℕ} (inb) (f : (Sh2 A 512).Idx → EReal) (w : (Sh2 A nc).Idx → EReal) (r : Fin A) (x : Fin nc) (col : Fin 512)
    (h : col.val = c0 + x.val) : over (Rect.unit (s := Sh2 A 512) ![0, c0] ![A, nc] inb) f w (ix2 r col) = w (ix2 r x) := by
  have e : (Rect.unit (s := Sh2 A 512) ![0, c0] ![A, nc] inb).emb (ix2 r x) = ix2 r col := by
    funext a
    apply Fin.ext
    fin_cases a
    · show 0 + 1 * r.val = r.val; omega
    · show c0 + 1 * x.val = col.val; omega
  rw [← e]
  exact over_emb (Rect.unit (s := Sh2 A 512) ![0, c0] ![A, nc] inb) f w (ix2 r x)

/-- The same, read in another column. -/
theorem over_out {A nc c0 : ℕ} (inb) (f : (Sh2 A 512).Idx → EReal) (w : (Sh2 A nc).Idx → EReal) (r : Fin A) (col : Fin 512)
    (h : ¬ (c0 ≤ col.val ∧ col.val < c0 + nc)) : over (Rect.unit (s := Sh2 A 512) ![0, c0] ![A, nc] inb) f w (ix2 r col) = f (ix2 r col) := by
  refine over_not (Rect.unit (s := Sh2 A 512) ![0, c0] ![A, nc] inb) f w fun y hy => h ?_
  have h1 : c0 + 1 * (y 1).val = col.val := congrArg (fun i : (Sh2 A 512).Idx => (i 1).val) hy
  have h2 : (y 1).val < nc := (y 1).isLt
  omega

/-- The old running state under a step's columns. -/
theorem rd_cols {A nc c0 : ℕ} (inb) (f : (Sh2 A 512).Idx → EReal) (r : Fin A) (x : Fin nc) (col : Fin 512) (h : col.val = c0 + x.val) :
    f ((Rect.unit (s := Sh2 A 512) ![0, c0] ![A, nc] inb).toLoadRect.idx (ix2 r x)) = f (ix2 r col) := by
  refine congrArg f (funext fun a => Fin.ext ?_)
  fin_cases a
  · show 0 + 1 * r.val = r.val; omega
  · show c0 + 1 * x.val = col.val; omega

/-- A step adds its keys to the columns it treats. -/
theorem col_in (H : Holds I z) (s : Step Ideal) (j : Bool) (ma : MA Ideal) (col : Fin 512) (hc : s.c0 ≤ col.val ∧ col.val < s.c0 + s.nc)
    (h : 0 < s.t → Col I z j s.v (512 * s.t) ma col) : Col I z j s.v (512 * s.t + s.nk) (stepMA I s j ma) col := by
  obtain ⟨x, hx⟩ : ∃ x : Fin s.nc, col.val = s.c0 + x.val := ⟨⟨col.val - s.c0, by omega⟩, by show _ = s.c0 + (col.val - s.c0); omega⟩
  obtain ⟨T, hT⟩ := tileM_real H s j x
  have e1 : (stepMA I s j ma).1 (ix2 0 col) = newM I s j ma.1 (ix2 0 x) :=
    (over_in s.inbM ma.1 (shapeCast (Sh2 1 s.nc) (newM I s j ma.1) (cast2 _ _)) 0 x col hx).trans (congrFun (shapeCast_self _ _) _)
  have e2 : ∀ r : Fin 80, (stepMA I s j ma).2 (ix2 r col) = newA I s j ma (ix2 r x) := fun r =>
    (over_in s.inbA ma.2 (shapeCast (Sh2 80 s.nc) (newA I s j ma) (cast2 _ _)) r x col hx).trans (congrFun (shapeCast_self _ _) _)
  by_cases h0 : s.t = 0
  · refine ⟨T, e1.trans ?_, fun r => (e2 r).trans ?_⟩
    · rw [newM, if_pos h0]; exact hT
    · rw [newA, if_pos h0, weigh_apply H s j _ T r x hT, ← hx, h0, part_tile, Nat.mul_zero, Nat.zero_add]
      simp only [Nat.zero_add]
      rfl
  · obtain ⟨M, hM, hA⟩ := h (Nat.pos_of_ne_zero h0)
    have hm : newM I s j ma.1 (ix2 0 x) = ((max M T : ℝ) : EReal) := by
      rw [newM, if_neg h0]
      refine (maximumf_apply _ _ _).trans ?_
      rw [hT, show ((max M T : ℝ) : EReal) = max (M : EReal) (T : EReal) from (EReal.coe_strictMono.monotone.map_max)]
      exact congrArg (max · (T : EReal)) ((rd_cols s.inbM ma.1 0 x col hx).trans hM)
    refine ⟨max M T, e1.trans hm, fun r => (e2 r).trans ?_⟩
    rw [newA, if_neg h0, ← part_step _ _ _ (512 * s.t) s.nk M (max M T)]
    unfold mix
    refine (addf_apply _ _ _).trans (congrArg₂ (· + ·) ?_ ?_)
    · refine (mulf_apply _ _ _).trans (congrArg₂ (· * ·) ?_ ?_)
      · refine (broadcastTo_1b_ab_apply _ _ r x).trans (congrArg Ideal.exp2 ?_)
        exact (subf_apply _ _ _).trans (congrArg₂ (· - ·) ((rd_cols s.inbM ma.1 0 x col hx).trans hM) hm)
      · exact (rd_cols s.inbA ma.2 r x col hx).trans (hA r)
    · rw [weigh_apply H s j _ _ r x hm, ← hx]

/-- A step leaves the columns it does not treat. -/
theorem col_out (s : Step Ideal) (j : Bool) (ma : MA Ideal) (n : ℕ) (col : Fin 512) (hc : ¬ (s.c0 ≤ col.val ∧ col.val < s.c0 + s.nc))
    (h : Col I z j s.v n ma col) : Col I z j s.v n (stepMA I s j ma) col := by
  obtain ⟨M, hM, hA⟩ := h
  exact ⟨M, (over_out s.inbM ma.1 _ 0 col hc).trans hM, fun r => (over_out s.inbA ma.2 _ r col hc).trans (hA r)⟩

/-- Keys behind the mask add nothing. -/
theorem part_past (q : ℕ) (zz : ℕ → ℝ) (v : ℕ → EReal) (n n' : ℕ) (h : q < n) (h' : n ≤ n') : part q zz v n = part q zz v n' := by
  unfold part
  refine Finset.sum_subset (Finset.range_mono h') fun key _ hk => ?_
  have : ¬ key ≤ q := by rw [Finset.mem_range] at hk; omega
  rw [wt, if_neg this, EReal.coe_zero, zero_mul]

/-- A column that has seen its own key has seen all. -/
theorem col_full {j : Bool} {v n : ℕ} {ma : MA Ideal} {col : Fin 512} (h : Col I z j v n ma col) (hn : 512 * v + col < n) (hn' : n ≤ 4096) :
    Col I z j v 4096 ma col := by
  obtain ⟨M, hM, hA⟩ := h
  exact ⟨M, hM, fun r => by rw [hA r, part_past _ _ _ n 4096 hn hn']⟩

/-! ## A row block's end -/

/-- The attention of one query and one of the block's 128 columns. -/
def attAt (I : Ins Ideal) (z : Bool → ℕ → ℕ → ℝ) (q c : ℕ) : EReal :=
  att 4096 q (z (decide (64 ≤ c)) q) (val I (decide (64 ≤ c)) (c % 64))

/-- One head's quotient. -/
theorem head_apply (H : Holds I z) (j : Bool) (v : ℕ) (ma : MA Ideal) (y : Fin 512) (d : Fin 64) (h : Col I z j v 4096 ma y) :
    divf (F := Ideal) (φ := .f32) (rd ma.2 rA64.toLoadRect) (broadcastTo (Sh2 64 512) (rd ma.2 rAsum.toLoadRect) (bcast 64 512)) (ix2 d y)
      = att 4096 (512 * v + y) (z j (512 * v + y)) (val I j d) := by
  obtain ⟨M, -, hA⟩ := h
  refine (divf_apply _ _ _).trans ?_
  have e1 : rd ma.2 rA64.toLoadRect (ix2 d y) = ma.2 (ix2 ⟨d.val, by omega⟩ y) := by
    refine congrArg ma.2 (funext fun a => Fin.ext ?_)
    fin_cases a
    · show 0 + 1 * d.val = d.val; omega
    · show 0 + 1 * y.val = y.val; omega
  have e2 : broadcastTo (Sh2 64 512) (rd ma.2 rAsum.toLoadRect) (bcast 64 512) (ix2 d y) = ma.2 (ix2 64 y) := by
    refine (broadcastTo_1b_ab_apply _ _ d y).trans ?_
    refine congrArg ma.2 (funext fun a => Fin.ext ?_)
    fin_cases a
    · rfl
    · show 0 + 1 * y.val = y.val; omega
  refine (congrArg₂ Ideal.div (e1.trans (hA _)) (e2.trans (hA _))).trans ?_
  exact part_div 4096 _ _ _ _ (fun key hk => H.one j key hk) (by decide) M

/-- A matrix turned and rounded. -/
theorem turned (x : FVec Ideal (Sh2 128 512) .f32) (h : (Sh2 128 512).Transposes [1, 0] (Sh2 512 128)) (h' : FTy.bf16.bits < FTy.f32.bits)
    (y : Fin 512) (c : Fin 128) : truncf .bf16 (transpose (Sh2 512 128) [1, 0] x h) h' (ix2 y c) = x (ix2 c y) :=
  transpose_ix2_apply x h y c

/-- The row block's result at a query and a column. -/
theorem rowOut_apply (H : Holds I z) (v : ℕ) (h : Bool → MA Ideal) (y : Fin 512) (c : Fin 128) (hc : ∀ j, Col I z j v 4096 (h j) y) :
    rowOut h (ix3 0 y c) = attAt I z (512 * v + y) c := by
  unfold rowOut quotient
  refine (shapeCast_ab_1ab_apply _ _ 0 y c).trans ?_
  refine (turned _ _ _ y c).trans ?_
  unfold attAt
  by_cases hcc : 64 ≤ c.val
  · rw [decide_eq_true hcc]
    refine (concatenate_pair_apply_right (t := Sh2 128 512) (s₁ := Sh2 64 512) (s₂ := Sh2 64 512) 0 _ _ catO (ix2 c y) rfl rfl
      (ix2 ⟨c.val - 64, by omega⟩ y) (fun b hb => ?_) (by show c.val - 64 + 64 = c.val; omega)).trans ?_
    · fin_cases b
      · exact absurd rfl hb
      · rfl
    · rw [head_apply H true v (h true) y _ (hc true), show c.val % 64 = c.val - 64 by omega]
  · rw [decide_eq_false hcc]
    refine (concatenate_pair_apply_left (t := Sh2 128 512) (s₁ := Sh2 64 512) (s₂ := Sh2 64 512) 0 _ _ catO (ix2 c y) rfl
      (ix2 ⟨c.val, by omega⟩ y) (fun b => by fin_cases b <;> rfl)).trans ?_
    rw [head_apply H false v (h false) y _ (hc false), show c.val % 64 = c.val by omega]

/-! ## The steps -/

/-- The steps' numbers: a tile below the diagonal, or one of the diagonal's two halves. -/
def Std (s : Step Ideal) : Prop :=
  (s.t < s.v ∧ s.nk = 512 ∧ s.c0 = 0 ∧ s.nc = 512) ∨ (s.t = s.v ∧ s.nk = 256 ∧ s.c0 = 0 ∧ s.nc = 256)
    ∨ (s.t = s.v ∧ s.nk = 512 ∧ s.c0 = 256 ∧ s.nc = 256)

/-- The step after another. -/
def Next (s s' : Step Ideal) : Prop :=
  (s.t < s.v ∧ s'.v = s.v ∧ s'.t = s.t + 1 ∧ s'.c0 = 0) ∨ (s.t = s.v ∧ s.c0 = 0 ∧ s'.v = s.v ∧ s'.t = s.v ∧ s'.c0 = 256)
    ∨ (s.t = s.v ∧ s.c0 = 256 ∧ s'.v = s.v + 1 ∧ s'.t = 0 ∧ s'.c0 = 0)

/-- The list is in order and ends with the last row block. -/
def Ordered : List (Step Ideal) → Prop
  | [] => True
  | [s] => Std s ∧ s.c0 = 256 ∧ s.v = 7
  | s :: s' :: l => Std s ∧ Next s s' ∧ Ordered (s' :: l)

/-- The same on the numbers: row block, key block, keys, first column, columns. -/
def orderedN : List (ℕ × ℕ × ℕ × ℕ × ℕ) → Bool
  | [] => true
  | [(v, t, k, c, n)] => decide (((t < v ∧ k = 512 ∧ c = 0 ∧ n = 512) ∨ (t = v ∧ k = 256 ∧ c = 0 ∧ n = 256) ∨ (t = v ∧ k = 512 ∧ c = 256 ∧ n = 256))
      ∧ c = 256 ∧ v = 7)
  | (v, t, k, c, n) :: (v', t', k', c', n') :: l =>
    decide (((t < v ∧ k = 512 ∧ c = 0 ∧ n = 512) ∨ (t = v ∧ k = 256 ∧ c = 0 ∧ n = 256) ∨ (t = v ∧ k = 512 ∧ c = 256 ∧ n = 256))
      ∧ ((t < v ∧ v' = v ∧ t' = t + 1 ∧ c' = 0) ∨ (t = v ∧ c = 0 ∧ v' = v ∧ t' = v ∧ c' = 256)
        ∨ (t = v ∧ c = 256 ∧ v' = v + 1 ∧ t' = 0 ∧ c' = 0))) && orderedN ((v', t', k', c', n') :: l)

/-- Steps whose numbers are in order are in order. -/
theorem ordered_of_numbers : ∀ (l : List (Step Ideal)), orderedN (l.map fun s => (s.v, s.t, s.nk, s.c0, s.nc)) = true → Ordered l
  | [], _ => trivial
  | [s], h => by
    simp only [List.map, orderedN, decide_eq_true_eq] at h
    exact h
  | s :: s' :: l, h => by
    simp only [List.map, orderedN, Bool.and_eq_true, decide_eq_true_eq] at h
    exact ⟨h.1.1, h.1.2, ordered_of_numbers (s' :: l) h.2⟩

/-- The numbers of a row block's steps. -/
def rowN5 (v : ℕ) : List (ℕ × ℕ × ℕ × ℕ × ℕ) := (List.range v).map (fun t => (v, t, 512, 0, 512)) ++ [(v, v, 256, 0, 256), (v, v, 512, 256, 256)]

/-- A row block's steps have the numbers listed. -/
theorem rowSteps_numbers5 (v : ℕ) (hv : v < 8) : ((rowSteps v hv : List (Step Ideal)).map fun s => (s.v, s.t, s.nk, s.c0, s.nc)) = rowN5 v := by
  simp only [rowSteps, rowN5, List.map_append, List.map_map, List.map_cons, List.map_nil, half]
  congr 1
  rw [← List.map_coe_finRange_eq_range, List.map_map]
  rfl

/-- The 44 steps are in order. -/
theorem ordered_steps : Ordered (steps : List (Step Ideal)) := by
  refine ordered_of_numbers _ ?_
  simp only [steps, List.map_append, rowSteps_numbers5]
  decide

/-- What the fold's state holds before a step: the attention of the row blocks done, and the keys of
    this row block done so far. -/
def Inv (I : Ins Ideal) (z : Bool → ℕ → ℕ → ℝ) (s : Step Ideal) (x : Abs Ideal) : Prop :=
  (∀ (q : Fin 4096) (c : Fin 128), q.val < 512 * s.v → x.1 (ix3 0 q c) = attAt I z q c)
    ∧ ∀ (j : Bool) (col : Fin 512), (col.val < s.c0 → Col I z j s.v 4096 (x.2 j) col)
      ∧ (s.c0 ≤ col.val → 0 < s.t → Col I z j s.v (512 * s.t) (x.2 j) col)

/-- The result's rows of a row block overwritten, read at a query. -/
theorem over_rows (v : ℕ) (hv : v < 8) (f : (Sh3 1 4096 128).Idx → EReal) (w : (Sh3 1 512 128).Idx → EReal) (q : Fin 4096) (c : Fin 128) :
    (∀ y : Fin 512, q.val = 512 * v + y → over (rOut v hv) f w (ix3 0 q c) = w (ix3 0 y c))
      ∧ (q.val < 512 * v → over (rOut v hv) f w (ix3 0 q c) = f (ix3 0 q c)) := by
  constructor
  · intro y hy
    have e : (rOut v hv).emb (ix3 0 y c) = ix3 0 q c := by
      funext a
      apply Fin.ext
      fin_cases a
      · rfl
      · show v * 512 + 1 * y.val = q.val; omega
      · show 0 + 1 * c.val = c.val; omega
    rw [← e]
    exact over_emb (rOut v hv) f w (ix3 0 y c)
  · intro hq
    refine over_not (rOut v hv) f w fun y hy => ?_
    have h1 : v * 512 + 1 * (y 1).val = q.val := congrArg (fun i : (Sh3 1 4096 128).Idx => (i 1).val) hy
    omega

/-- The columns after a step. -/
theorem cols_step (H : Holds I z) (s : Step Ideal) (hs : Std s) (x : Abs Ideal) (h : Inv I z s x) (j : Bool) (col : Fin 512) :
    (s.t = s.v → col.val < s.c0 + s.nc → Col I z j s.v 4096 ((absStep I x s).2 j) col)
      ∧ (s.t < s.v → Col I z j s.v (512 * s.t + 512) ((absStep I x s).2 j) col)
      ∧ (s.c0 + s.nc ≤ col.val → 0 < s.t → Col I z j s.v (512 * s.t) ((absStep I x s).2 j) col) := by
  obtain ⟨h1, h2⟩ := h.2 j col
  have hcol := col.isLt
  have hv := s.hv
  refine ⟨fun ht hc => ?_, fun ht => ?_, fun hc ht => ?_⟩
  · by_cases hc0 : col.val < s.c0
    · exact col_out s j _ _ col (by omega) (h1 hc0)
    · refine col_full (col_in H s j _ col ⟨by omega, hc⟩ (h2 (by omega))) ?_ ?_
      · rcases hs with h | h | h <;> omega
      · rcases hs with h | h | h <;> omega
  · have hn : s.nk = 512 := by rcases hs with h | h | h <;> omega
    have := col_in H s j (x.2 j) col (by rcases hs with h | h | h <;> omega) (h2 (by rcases hs with h | h | h <;> omega))
    rw [hn] at this
    exact this
  · exact col_out s j _ _ col (by omega) (h2 (by omega) ht)

/-- The result's rows after a row block's last step. -/
theorem rows_step (H : Holds I z) (s : Step Ideal) (hs : Std s) (x : Abs Ideal) (h : Inv I z s x) (q : Fin 4096) (c : Fin 128)
    (hq : q.val < 512 * s.v ∨ (Last s ∧ q.val < 512 * s.v + 512)) : (absStep I x s).1 (ix3 0 q c) = attAt I z q c := by
  by_cases hl : Last s
  · have e : (absStep I x s).1 = over (rOut s.v s.hv) x.1 (rowOut fun j => stepMA I s j (x.2 j)) := by
      simp only [absStep, if_pos hl]
    rw [e]
    obtain ⟨o1, o2⟩ := over_rows s.v s.hv x.1 (rowOut fun j => stepMA I s j (x.2 j)) q c
    by_cases hq' : q.val < 512 * s.v
    · exact (o2 hq').trans (h.1 q c hq')
    · have hy : q.val = 512 * s.v + (⟨q.val - 512 * s.v, by omega⟩ : Fin 512) := by
        show q.val = 512 * s.v + (q.val - 512 * s.v)
        omega
      refine (o1 _ hy).trans ((rowOut_apply H s.v _ _ c fun j => ?_).trans (by rw [← hy]))
      exact (cols_step H s hs x h j _).1 hl.1 (by have := hl.2; show q.val - 512 * s.v < _; omega)
  · have e : (absStep I x s).1 = x.1 := by simp only [absStep, if_neg hl]
    rw [e]
    exact h.1 q c (hq.resolve_right fun h => hl h.1)

/-- The fold over steps in order ends with the attention everywhere. -/
theorem fold_steps (H : Holds I z) : ∀ (l : List (Step Ideal)) (s : Step Ideal) (x : Abs Ideal), Ordered (s :: l) → Inv I z s x →
    ∀ (q : Fin 4096) (c : Fin 128), ((s :: l).foldl (absStep I) x).1 (ix3 0 q c) = attAt I z q c
  | [], s, x, ho, hi, q, c => by
    obtain ⟨hs, hc, hv⟩ := ho
    refine rows_step H s hs x hi q c (.inr ⟨?_, ?_⟩)
    · rcases hs with h | h | h
      · omega
      · omega
      · exact ⟨h.1, by omega⟩
    · have := q.isLt; omega
  | s' :: l, s, x, ho, hi, q, c => by
    obtain ⟨hs, hn, ho'⟩ := ho
    refine fold_steps H l s' (absStep I x s) ho' ⟨fun q c hq => ?_, fun j col => ?_⟩ q c
    · refine rows_step H s hs x hi q c ?_
      rcases hn with h | h | h
      · left; rw [h.2.1] at hq; exact hq
      · left; rw [h.2.2.1] at hq; exact hq
      · right
        refine ⟨⟨h.1, ?_⟩, ?_⟩
        · rcases hs with g | g | g <;> omega
        · rw [h.2.2.1] at hq; omega
    · obtain ⟨c1, c2, c3⟩ := cols_step H s hs x hi j col
      rcases hn with h | h | h
      · refine ⟨fun hc => by omega, fun _ _ => ?_⟩
        rw [h.2.1, h.2.2.1, show 512 * (s.t + 1) = 512 * s.t + 512 by ring]
        exact c2 h.1
      · have hnc : s.nc = 256 := by rcases hs with g | g | g <;> omega
        rw [h.2.2.1, h.2.2.2.1]
        refine ⟨fun hc => c1 h.1 (by omega), fun hc ht => ?_⟩
        have g := c3 (by omega) (by omega)
        rw [h.1] at g
        exact g
      · exact ⟨fun hc => by omega, fun _ ht => by omega⟩

/-- **The result's block is the attention.** -/
theorem foxOut_apply (H : Holds I z) (q : Fin 4096) (c : Fin 128) : foxOut I (ix3 0 q c) = attAt I z q c := by
  have hs : ∃ s l, (steps : List (Step Ideal)) = s :: l ∧ s.v = 0 ∧ s.t = 0 ∧ s.c0 = 0 := ⟨_, _, rfl, rfl, rfl, rfl⟩
  obtain ⟨s, l, e, hv, ht, hc⟩ := hs
  have ho := ordered_steps
  unfold foxOut
  rw [e] at ho ⊢
  exact fold_steps H l s abs0 ho ⟨fun q c hq => by omega, fun j col => ⟨fun h => by omega, fun _ h => by omega⟩⟩ q c

end Cert.Fox
end
-- ==== Proof.Fox.Arrays.lean ====
/- The call's operands by the whole arrays they are blocks of, and the call's result from its blocks,
   the floats being extended reals. -/
module

public import proofs.«01_k».proof.Proof.Fox.KernelIdealRun
public import proofs.«01_k».proof.Proof.Fox.Logit
public import proofs.«01_k».proof.Proof.Fox.Fold
public import Idealize.ShloMosaic.Lib.Pipeline.ValueKit

@[expose] public section

noncomputable section

namespace Cert.KernelIdeal.Fox

open Cert.KernelIdeal Cert.KernelIdeal.Gen
open Idealize.ShloMosaic hiding ix0 ix1 ix2 ix3 ix4 ix5
open Idealize.ShloMosaic.TcCoe
open Idealize.SL.Sem
open Idealize.ShloMosaic.ValueIdx
open Cert.Fox (get2 get3 get4 get2_of get3_of get4_of Args logit attAt)

/-- The pair of heads of a grid point. -/
abbrev pairOf (t : Fin cfg1.N) : ℕ := (grid1.coords t 0).val
/-- The batch of a grid point. -/
abbrev batchOf (t : Fin cfg1.N) : ℕ := (grid1.coords t 1).val

/-- The queries' block of a grid point: its batch, its pair's rows. -/
theorem index_qt : ∀ t : Fin cfg1.N, win1_1.index t = ![batchOf t, pairOf t, 0] :=
  (by decide +kernel : ∀ t : Fin grid1.N, _)
/-- The keys' block of a grid point: its batch, its pair's columns. -/
theorem index_k : ∀ t : Fin cfg1.N, win1_2.index t = ![batchOf t, 0, pairOf t] :=
  (by decide +kernel : ∀ t : Fin grid1.N, _)
/-- The values' block of a grid point: its batch, its pair's rows. -/
theorem index_vt : ∀ t : Fin cfg1.N, win1_3.index t = ![batchOf t, pairOf t, 0] :=
  (by decide +kernel : ∀ t : Fin grid1.N, _)
/-- The decay's block of a grid point: its batch. -/
theorem index_dec : ∀ t : Fin cfg1.N, win1_4.index t = ![batchOf t, 0, 0] :=
  (by decide +kernel : ∀ t : Fin grid1.N, _)
/-- The lane indicators' block of a grid point: its pair. -/
theorem index_ones : ∀ t : Fin cfg1.N, win1_5.index t = ![pairOf t, 0, 0, 0] :=
  (by decide +kernel : ∀ t : Fin grid1.N, _)
/-- The mask's block of a grid point: the whole mask. -/
theorem index_mask : ∀ t : Fin cfg1.N, win1_6.index t = ![0, 0] :=
  (by decide +kernel : ∀ t : Fin grid1.N, _)
/-- The result's block of a grid point: its batch, its pair's columns. -/
theorem index_out : ∀ t : Fin cfg1.N, win1_7.index t = ![batchOf t, 0, pairOf t] :=
  (by decide +kernel : ∀ t : Fin grid1.N, _)

variable (V : Conts (F := Ideal)) (c : Dev nD) (t : Fin cfg1.N)

/-- The queries of a grid point. -/
theorem ins_qt (j k : ℕ) (hj : j < 128) (hk : k < 4096) :
    get3 (insAt V c t .qt) 0 j k = get3 (a := 8) (b := 1024) (c := 4096) (V c main_arg0) (batchOf t) (128 * pairOf t + j) k := by
  unfold get3
  rw [dif_pos ⟨Nat.one_pos, hj, hk⟩]
  refine get3_of (a := 8) (b := 1024) (c := 4096) (V c main_arg0) _ _ _ _ ?_ ?_ ?_
  · show (((cfg1.win 1).blk t).view.emb _ 0).val = _
    blk_simp [index_qt]
  · show (((cfg1.win 1).blk t).view.emb _ 1).val = _
    blk_simp [index_qt]
    show pairOf t * 128 + j = _
    omega
  · show (((cfg1.win 1).blk t).view.emb _ 2).val = _
    blk_simp [index_qt]
    rfl

/-- The keys of a grid point. -/
theorem ins_k (j k : ℕ) (hj : j < 4096) (hk : k < 128) :
    get3 (insAt V c t .k) 0 j k = get3 (a := 8) (b := 4096) (c := 1024) (V c main_arg1) (batchOf t) j (128 * pairOf t + k) := by
  unfold get3
  rw [dif_pos ⟨Nat.one_pos, hj, hk⟩]
  refine get3_of (a := 8) (b := 4096) (c := 1024) (V c main_arg1) _ _ _ _ ?_ ?_ ?_
  · show (((cfg1.win 2).blk t).view.emb _ 0).val = _
    blk_simp [index_k]
  · show (((cfg1.win 2).blk t).view.emb _ 1).val = _
    blk_simp [index_k]
    rfl
  · show (((cfg1.win 2).blk t).view.emb _ 2).val = _
    blk_simp [index_k]
    show pairOf t * 128 + k = _
    omega

/-- The values of a grid point. -/
theorem ins_vt (j k : ℕ) (hj : j < 160) (hk : k < 4096) :
    get3 (insAt V c t .vt) 0 j k = get3 (a := 8) (b := 1280) (c := 4096) (V c main_arg2) (batchOf t) (160 * pairOf t + j) k := by
  unfold get3
  rw [dif_pos ⟨Nat.one_pos, hj, hk⟩]
  refine get3_of (a := 8) (b := 1280) (c := 4096) (V c main_arg2) _ _ _ _ ?_ ?_ ?_
  · show (((cfg1.win 3).blk t).view.emb _ 0).val = _
    blk_simp [index_vt]
  · show (((cfg1.win 3).blk t).view.emb _ 1).val = _
    blk_simp [index_vt]
    show pairOf t * 160 + j = _
    omega
  · show (((cfg1.win 3).blk t).view.emb _ 2).val = _
    blk_simp [index_vt]
    rfl

/-- The decay limbs of a grid point. -/
theorem ins_dec (j k : ℕ) (hj : j < 4096) (hk : k < 128) :
    get3 (insAt V c t .dec) 0 j k = get3 (a := 8) (b := 4096) (c := 128) (V c main_arg3) (batchOf t) j k := by
  unfold get3
  rw [dif_pos ⟨Nat.one_pos, hj, hk⟩]
  refine get3_of (a := 8) (b := 4096) (c := 128) (V c main_arg3) _ _ _ _ ?_ ?_ ?_
  · show (((cfg1.win 4).blk t).view.emb _ 0).val = _
    blk_simp [index_dec]
  · show (((cfg1.win 4).blk t).view.emb _ 1).val = _
    blk_simp [index_dec]
    rfl
  · show (((cfg1.win 4).blk t).view.emb _ 2).val = _
    blk_simp [index_dec]
    rfl

/-- The lane indicators of a grid point. -/
theorem ins_ones (j l k : ℕ) (hj : j < 2) (hl : l < 128) (hk : k < 512) :
    get4 (insAt V c t .ones) 0 j l k = get4 (a := 8) (b := 2) (c := 128) (d := 512) (V c main_v16) (pairOf t) j l k := by
  unfold get4
  rw [dif_pos ⟨Nat.one_pos, hj, hl, hk⟩]
  refine get4_of (a := 8) (b := 2) (c := 128) (d := 512) (V c main_v16) _ _ _ _ _ ?_ ?_ ?_ ?_
  · show (((cfg1.win 5).blk t).view.emb _ 0).val = _
    blk_simp [index_ones]
  · show (((cfg1.win 5).blk t).view.emb _ 1).val = _
    blk_simp [index_ones]
    rfl
  · show (((cfg1.win 5).blk t).view.emb _ 2).val = _
    blk_simp [index_ones]
    rfl
  · show (((cfg1.win 5).blk t).view.emb _ 3).val = _
    blk_simp [index_ones]
    rfl

/-- The mask of a grid point. -/
theorem ins_mask (y x : ℕ) (hy : y < 512) (hx : x < 512) :
    get2 (insAt V c t .mask) y x = get2 (a := 512) (b := 512) (V c main_v14) y x := by
  unfold get2
  rw [dif_pos ⟨hy, hx⟩]
  refine get2_of (a := 512) (b := 512) (V c main_v14) _ _ _ ?_ ?_
  · show (((cfg1.win 6).blk t).view.emb _ 0).val = _
    blk_simp [index_mask]
    rfl
  · show (((cfg1.win 6).blk t).view.emb _ 1).val = _
    blk_simp [index_mask]
    rfl

/-! ## The mask's and the lanes' arrays -/

variable (m : (ℓ : Loc nD τ sig) → Buf (Elt Ideal) ℓ)

/-- The mask call's only block: the whole mask. -/
theorem index_own : ∀ t : Fin cfg0.N, win0_0.index t = ![0, 0] :=
  (by decide +kernel : ∀ t : Fin grid0.N, _)

/-- The mask's call leaves its block. -/
theorem maskArr_eq : maskArr m c = k0_pay1 (F := Ideal) := by
  unfold maskArr
  refine (dat0 (fun c b => V2 m c b) c).arrAt_eq_of_covers 0 _ (by decide +kernel) fun t hf y => ?_
  blk_simp
  show k0_pay1 (F := Ideal) y = _
  refine congrArg k0_pay1 (funext fun a => Fin.ext ?_)
  fin_cases a
  · show _ = (((cfg0.win 0).blk t).view.emb y 0).val
    blk_simp [index_own]
    rfl
  · show _ = (((cfg0.win 0).blk t).view.emb y 1).val
    blk_simp [index_own]
    rfl

/-- A small natural number as a word, read back. -/
theorem word_int (n : ℕ) (h : n < 4096) : (BitVec.ofNat 32 n).toInt = n := by
  rw [BitVec.toInt_ofNat', Int.bmod]; omega

/-- The mask is the causal one. -/
theorem mask_apply (y x : Fin 512) : (k0_pay1 (F := Ideal) (ix2 y x) : EReal) = if y.val ≤ x.val then 0 else ⊥ := by
  have e : (k0_pay1 (F := Ideal) (ix2 y x) : EReal)
      = Scalar.select (IntOp.cmpi .sle (iota .tc S512x512 32 [0] iota_S512x512_d0_w32 (ix2 y x)) (iota .tc S512x512 32 [1] iota_S512x512_d1_w32 (ix2 y x)))
        (Ideal.ofBits .f32 0x00000000#32) (⊥ : EReal) := rfl
  have h0 : iota .tc S512x512 32 [0] iota_S512x512_d0_w32 (ix2 y x) = BitVec.ofNat 32 y.val :=
    congrArg (BitVec.ofNat 32) (show 0 * 512 + y.val = y.val by omega)
  have h1 : iota .tc S512x512 32 [1] iota_S512x512_d1_w32 (ix2 y x) = BitVec.ofNat 32 x.val :=
    congrArg (BitVec.ofNat 32) (show 0 * 512 + x.val = x.val by omega)
  have hc : IntOp.cmpi .sle (BitVec.ofNat 32 y.val) (BitVec.ofNat 32 x.val) = 1#1 ↔ y.val ≤ x.val := by
    rw [IntOp.cmpi_sle, word_int _ (by omega), word_int _ (by omega), Int.ofNat_le]
  rw [e, h0, h1, Ideal.ofBits_zero_f32, Scalar.select]
  exact if_congr hc rfl rfl

/-- The lane indicators' array. -/
def onesArr : (Cert.Fox.Sh4 8 2 128 512).Idx → EReal := W4 m c main_v16

/-- The lanes of a head are its three limbs'. -/
theorem lanes_apply (g : Fin 8) (j : Fin 2) (l : Fin 128) (k : Fin 512) :
    onesArr c m (ix4 g j l k)
      = if 3 * (2 * g.val + j.val) ≤ l.val ∧ l.val < 3 * (2 * g.val + j.val) + 3 then 1 else 0 := by
  have e : onesArr c m (ix4 g j l k)
      = Scalar.select (IntOp.andi
          (IntOp.cmpi .sge (BitVec.ofNat 32 l.val) (3#32 * (2#32 * BitVec.ofNat 32 g.val + BitVec.ofNat 32 j.val)))
          (IntOp.cmpi .slt (BitVec.ofNat 32 l.val) (3#32 * (2#32 * BitVec.ofNat 32 g.val + BitVec.ofNat 32 j.val) + 3#32)))
        (Ideal.ofBits .f32 0x3F800000#32) (Ideal.ofBits .f32 0x00000000#32) := rfl
  have w1 : 3#32 * (2#32 * BitVec.ofNat 32 g.val + BitVec.ofNat 32 j.val) = BitVec.ofNat 32 (3 * (2 * g.val + j.val)) := by
    rw [BitVec.ofNat_mul, BitVec.ofNat_add, BitVec.ofNat_mul]
  have w2 : BitVec.ofNat 32 (3 * (2 * g.val + j.val)) + 3#32 = BitVec.ofNat 32 (3 * (2 * g.val + j.val) + 3) := by
    rw [BitVec.ofNat_add]
  have hc : IntOp.andi (IntOp.cmpi .sge (BitVec.ofNat 32 l.val) (BitVec.ofNat 32 (3 * (2 * g.val + j.val))))
      (IntOp.cmpi .slt (BitVec.ofNat 32 l.val) (BitVec.ofNat 32 (3 * (2 * g.val + j.val) + 3))) = 1#1
        ↔ 3 * (2 * g.val + j.val) ≤ l.val ∧ l.val < 3 * (2 * g.val + j.val) + 3 := by
    rw [IntOp.andi_eq_one, IntOp.cmpi_sge, IntOp.cmpi_slt, word_int _ (by omega), word_int _ (by omega), word_int _ (by omega),
      Int.ofNat_le, Int.ofNat_lt]
  rw [e, w1, w2, Ideal.ofBits_zero_f32, Ideal.ofBits_one_f32, Scalar.select]
  exact if_congr hc rfl rfl

/-! ## What the call's operands hold -/

/-- The call's arguments. -/
def argsOf : Args where
  qt := m ((c : Thread nD τ).loc main_arg0)
  k := m ((c : Thread nD τ).loc main_arg1)
  vt := m ((c : Thread nD τ).loc main_arg2)
  dec := m ((c : Thread nD τ).loc main_arg3)

/-- The contents of the buffers where the attention's call begins. -/
abbrev entry : Conts (F := Ideal) := fun c b => W4 m c b

/-- The attention's call begins with the queries as given. -/
theorem entry_qt : entry m c main_arg0 = (argsOf c m).qt := rfl
/-- The attention's call begins with the keys as given. -/
theorem entry_k : entry m c main_arg1 = (argsOf c m).k := rfl
/-- The attention's call begins with the values as given. -/
theorem entry_vt : entry m c main_arg2 = (argsOf c m).vt := rfl
/-- The attention's call begins with the decay as given. -/
theorem entry_dec : entry m c main_arg3 = (argsOf c m).dec := rfl
/-- The attention's call begins with the lane indicators that the host has built. -/
theorem entry_ones : entry m c main_v16 = onesArr c m := rfl
/-- The attention's call begins with the mask that the first call has built. -/
theorem entry_mask : entry m c main_v14 = maskArr m c := rfl

/-- There are eight pairs of heads. -/
theorem pairOf_lt (t : Fin cfg1.N) : pairOf t < 8 := (grid1.coords t 0).isLt
/-- There are eight batches. -/
theorem batchOf_lt (t : Fin cfg1.N) : batchOf t < 8 := (grid1.coords t 1).isLt

/-- The logits of a grid point. -/
def zAt (A : Args) (t : Fin cfg1.N) (j : Bool) (q key : ℕ) : ℝ := logit A (batchOf t) (2 * pairOf t + j.toNat) q key

/-- The operands at a grid point are what the loop asks of them. -/
theorem holds (G : (argsOf c m).Good) : Cert.Fox.Holds (insAt (entry m) c t) (zAt (argsOf c m) t) where
  raw j key q hkey hq := by
    have hp := pairOf_lt t
    have hj : j.toNat < 2 := Bool.toNat_lt j
    have e1 : ∀ d : Fin 64, get3 (insAt (entry m) c t .k) 0 key (64 * j.toNat + d) * get3 (insAt (entry m) c t .qt) 0 (64 * j.toNat + d) q
        = get3 (argsOf c m).k (batchOf t) key (64 * (2 * pairOf t + j.toNat) + d) * get3 (argsOf c m).qt (batchOf t) (64 * (2 * pairOf t + j.toNat) + d) q := by
      intro d
      rw [ins_k _ _ _ _ _ hkey (by omega), ins_qt _ _ _ _ _ (by omega) hq, entry_k, entry_qt,
        show 128 * pairOf t + (64 * j.toNat + d) = 64 * (2 * pairOf t + j.toNat) + d by ring]
    have e2 : ∀ l : Fin 128, get3 (insAt (entry m) c t .dec) 0 key l = get3 (argsOf c m).dec (batchOf t) key l := by
      intro l
      rw [ins_dec _ _ _ _ _ hkey l.isLt, entry_dec]
    have e3 : ∀ l : Fin 128, get4 (insAt (entry m) c t .ones) 0 j.toNat l (q % 512)
        = if 3 * (2 * pairOf t + j.toNat) ≤ l.val ∧ l.val < 3 * (2 * pairOf t + j.toNat) + 3 then 1 else 0 := by
      intro l
      have hx : q % 512 < 512 := Nat.mod_lt _ (by norm_num)
      rw [ins_ones _ _ _ _ _ _ hj l.isLt hx, entry_ones]
      exact (get4_of (onesArr c m) (ix4 ⟨pairOf t, hp⟩ ⟨j.toNat, hj⟩ l ⟨q % 512, hx⟩) _ _ _ _ rfl rfl rfl rfl).symm.trans (lanes_apply c m _ _ _ _)
    rw [Finset.sum_congr rfl fun d _ => e1 d, Cert.Fox.inner_eq G, Finset.sum_congr rfl fun (l : Fin 128) _ => congrArg (· * get4 (insAt (entry m) c t .ones) 0 j.toNat l (q % 512)) (e2 l),
      Cert.Fox.lanes_eq G _ _ _ (by omega) _ e3, ← EReal.coe_add]
    rfl
  mask y x hy hx := by
    rw [ins_mask _ _ _ _ _ hy hx, entry_mask, maskArr_eq]
    exact (get2_of (a := 512) (b := 512) _ (ix2 ⟨y, hy⟩ ⟨x, hx⟩) _ _ rfl rfl).symm.trans (mask_apply ⟨y, hy⟩ ⟨x, hx⟩)
  one j key hkey := by
    have hp := pairOf_lt t
    have hj : j.toNat < 2 := Bool.toNat_lt j
    rw [ins_vt _ _ _ _ _ (by omega) hkey, entry_vt, show 160 * pairOf t + (80 * j.toNat + 64) = 80 * (2 * pairOf t + j.toNat) + 64 by ring]
    exact G.one _ _ _ (batchOf_lt t) (by omega) hkey

/-! ## The result -/

/-- The attention of every query of every head, heads side by side. -/
def whole (A : Args) : (Cert.Fox.Sh3 8 4096 1024).Idx → EReal := fun i =>
  Cert.Fox.att 4096 (i 1).val (logit A (i 0).val ((i 2).val / 64) (i 1).val)
    (fun key => get3 A.vt (i 0).val (80 * ((i 2).val / 64) + (i 2).val % 64) key)

/-- A grid point's attention is the whole's, at the block's place. -/
theorem attAt_whole (q : ℕ) (x : Fin 128) (i : (Cert.Fox.Sh3 8 4096 1024).Idx) (h0 : (i 0).val = batchOf t) (h1 : (i 1).val = q)
    (h2 : (i 2).val = 128 * pairOf t + x.val) :
    attAt (insAt (entry m) c t) (zAt (argsOf c m) t) q x.val = whole (argsOf c m) i := by
  have hd : (i 2).val / 64 = 2 * pairOf t + (decide (64 ≤ x.val)).toNat := by
    by_cases h : 64 ≤ x.val
    · rw [decide_eq_true h, Bool.toNat_true]; omega
    · rw [decide_eq_false h, Bool.toNat_false]; omega
  have hr : (i 2).val % 64 = x.val % 64 := by omega
  have hj : (decide (64 ≤ x.val)).toNat < 2 := Bool.toNat_lt _
  unfold whole attAt
  rw [h0, h1, hd, hr]
  refine Cert.Fox.att_congr 4096 q _ _ _ fun key hkey => ?_
  have hp := pairOf_lt t
  show get3 (insAt (entry m) c t .vt) 0 (80 * (decide (64 ≤ x.val)).toNat + x.val % 64) key = _
  rw [ins_vt _ _ _ _ _ (by omega) hkey, entry_vt,
    show 160 * pairOf t + (80 * (decide (64 ≤ x.val)).toNat + x.val % 64) = 80 * (2 * pairOf t + (decide (64 ≤ x.val)).toNat) + x.val % 64 by ring]

/-- The call's result. -/
theorem foxArr_eq (G : (argsOf c m).Good) : foxArr m c = whole (argsOf c m) := by
  unfold foxArr
  refine (dat1 (fun c b => W4 m c b) c).arrAt_eq_of_covers 7 _ (by decide +kernel) fun t hf y => ?_
  blk_simp
  refine Eq.trans (b := Cert.Fox.foxOut (insAt (entry m) c t) (ix3 0 (y 1) (y 2))) ?_ ?_
  · exact congrArg (Cert.Fox.foxOut (insAt (entry m) c t)) (funext fun a => by
      fin_cases a
      · exact Subsingleton.elim (α := Fin 1) _ _
      · rfl
      · rfl)
  · rw [Cert.Fox.foxOut_apply (holds c t m G) (y 1) (y 2)]
    refine attAt_whole c t m (y 1).val (y 2) _ ?_ ?_ ?_
    · show (((cfg1.win 7).blk t).view.emb y 0).val = _
      blk_simp [index_out]
    · show (((cfg1.win 7).blk t).view.emb y 1).val = _
      blk_simp [index_out]
    · show (((cfg1.win 7).blk t).view.emb y 2).val = _
      blk_simp [index_out]
      omega

end Cert.KernelIdeal.Fox

end
-- ==== Proof.Fox.Reference.lean ====
/- The reference's result at an index: the softmax of the logits up to the query, times the values. -/
module

public import proofs.«01_k».proof.Proof.Gen.ReferenceIdeal.Run
public import proofs.«01_k».proof.Proof.Fox.Logit
public import proofs.«01_k».proof.Proof.Fox.Fold
public import Idealize.ShloMosaic.Lib.Pointwise
public import Idealize.ShloMosaic.Lib.Affine

@[expose] public section

noncomputable section

namespace Cert.ReferenceIdeal.Fox

open Idealize.ShloMosaic Idealize.SL.Sem Cert.ReferenceIdeal Cert.ReferenceIdeal.Gen
open Cert.Fox (get3 get3_of Args logit)

set_option maxRecDepth 16384

/-! ## The result in pieces -/

/-- Minus the cumulative decay, by head. -/
def decay (D : FVec Ideal S8x4096x128 .bf16) : FVec Ideal S8x16x4096 .f32 :=
  transpose S8x16x4096 [0, 2, 1]
    (Host.negf (Host.reduceAdd
      (shapeCast _ (extractStridedSlice S8x4096x48 ![0, 0, 0] (extf .f32 D bitsLt_bf16_f32) slices_S8x4096x128_S8x4096x48_0_0_0)
        shapeCasts_S8x4096x48_S8x4096x16x3)
      (constant S_ .f32 0x00000000#32) reducesTo_S8x4096x16x3_S8x4096x16_d3 h_S_))
    transposes_S8x4096x16_S8x16x4096_0_2_1

/-- The logits before the mask. -/
def raw (Q : FVec Ideal S8x1024x4096 .bf16) (K : FVec Ideal S8x4096x1024 .bf16) (C : FVec Ideal S8x16x4096 .f32) :
    FVec Ideal S8x16x4096x4096 .f32 :=
  addf
    (Host.dotGeneral dot_S8x16x64x4096_S8x4096x16x64_S8x16x4096x4096_2_3_3_1_01_02 none
      (shapeCast _ (extf .f32 Q bitsLt_bf16_f32) shapeCasts_S8x1024x4096_S8x16x64x4096)
      (shapeCast _ (extf .f32 K bitsLt_bf16_f32) shapeCasts_S8x4096x1024_S8x4096x16x64))
    (subf
      (broadcastInDim S8x16x4096x4096 ![0, 1, 2, 3] bcast_S8x16x4096x1_S8x16x4096x4096_0_1_2_3
        (broadcastInDim S8x16x4096x1 ![0, 1, 2] bcast_S8x16x4096_S8x16x4096x1_0_1_2 C))
      (broadcastInDim S8x16x4096x4096 ![0, 1, 2, 3] bcast_S8x16x1x4096_S8x16x4096x4096_0_1_2_3
        (broadcastInDim S8x16x1x4096 ![0, 1, 3] bcast_S8x16x4096_S8x16x1x4096_0_1_3 C)))

/-- The masked logits in units of the natural logarithm. -/
def masked (L : FVec Ideal S8x16x4096x4096 .f32) : FVec Ideal S8x16x4096x4096 .f32 :=
  mulf
    (select
      (broadcastInDim S8x16x4096x4096 ![2, 3] bcast_S4096x4096_S8x16x4096x4096_2_3
        (cmpi .sge (subi (iotaInDim S4096x4096 32 0) (iotaInDim S4096x4096 32 1))
          (broadcastInDim S4096x4096 ![] bcast_S_S4096x4096 (constantI S_ 32 0#32))))
      L (broadcastInDim S8x16x4096x4096 ![] bcast_S_S8x16x4096x4096 (id (constant S_ .f32 0xFF800000#32))))
    (broadcastInDim S8x16x4096x4096 ![] bcast_S_S8x16x4096x4096 (Host.log (constant S_ .f32 0x40000000#32)))

/-- The largest logit of a query. -/
def rowMax (X : FVec Ideal S8x16x4096x4096 .f32) : FVec Ideal S8x16x4096 .f32 :=
  maximumf (broadcastInDim S8x16x4096 ![] bcast_S_S8x16x4096 (constant S_ .f32 0xFF800000#32))
    (Host.reduce FloatOps.maximumf X (constant S_ .f32 0xFF800000#32) reducesTo_S8x16x4096x4096_S8x16x4096_d3 h_S_)

/-- The exponentials of the logits lowered by a number per query. -/
def expo (X : FVec Ideal S8x16x4096x4096 .f32) (M : FVec Ideal S8x16x4096 .f32) : FVec Ideal S8x16x4096x4096 .f32 :=
  Host.exp (subf X
    (broadcastInDim S8x16x4096x4096 ![0, 1, 2, 3] bcast_S8x16x4096x1_S8x16x4096x4096_0_1_2_3
      (broadcastInDim S8x16x4096x1 ![0, 1, 2] bcast_S8x16x4096_S8x16x4096x1_0_1_2 M)))

/-- Each query's row over its sum. -/
def norm (E : FVec Ideal S8x16x4096x4096 .f32) : FVec Ideal S8x16x4096x4096 .f32 :=
  Host.divf E
    (broadcastInDim S8x16x4096x4096 ![0, 1, 2, 3] bcast_S8x16x4096x1_S8x16x4096x4096_0_1_2_3
      (broadcastInDim S8x16x4096x1 ![0, 1, 2] bcast_S8x16x4096_S8x16x4096x1_0_1_2
        (Host.reduceAdd E (constant S_ .f32 0x00000000#32) reducesTo_S8x16x4096x4096_S8x16x4096_d3 h_S_)))

/-- The weighted values, heads side by side. -/
def mixed (V : FVec Ideal S8x1280x4096 .bf16) (P : FVec Ideal S8x16x4096x4096 .f32) : FVec Ideal S8x4096x1024 .bf16 :=
  truncf .bf16
    (shapeCast _
      (transpose S8x4096x16x64 [0, 3, 1, 2]
        (Host.dotGeneral dot_S8x16x64x4096_S8x16x4096x4096_S8x16x64x4096_3_3_2_2_01_01 none
          (extractStridedSlice S8x16x64x4096 ![0, 0, 0, 0]
            (shapeCast _ (extf .f32 V bitsLt_bf16_f32) shapeCasts_S8x1280x4096_S8x16x80x4096)
            slices_S8x16x80x4096_S8x16x64x4096_0_0_0_0) P)
        transposes_S8x16x64x4096_S8x4096x16x64_0_3_1_2)
      shapeCasts_S8x4096x16x64_S8x4096x1024)
    bitsLt_bf16_f32

/-- The reference as a function of its arguments. -/
def attention (Q : FVec Ideal S8x1024x4096 .bf16) (K : FVec Ideal S8x4096x1024 .bf16) (V : FVec Ideal S8x1280x4096 .bf16)
    (D : FVec Ideal S8x4096x128 .bf16) : FVec Ideal S8x4096x1024 .bf16 :=
  mixed V (norm (expo (masked (raw Q K (decay D))) (rowMax (masked (raw Q K (decay D))))))

/-- The pieces make up the result. -/
theorem res_eq (m : (ℓ : Loc nD τ sig) → Buf (Elt Ideal) ℓ) (c : Dev nD) :
    Value.res_main_v43 m c = attention (m ((c.tc : Thread nD τ).loc main_arg0)) (m ((c.tc : Thread nD τ).loc main_arg1))
      (m ((c.tc : Thread nD τ).loc main_arg2)) (m ((c.tc : Thread nD τ).loc main_arg3)) := rfl

/-! ## Each piece at an index -/

/-- A head's cumulative gate at a position: minus the sum of its three limbs. -/
theorem decay_apply (D : FVec Ideal S8x4096x128 .bf16) (b : Fin 8) (h : Fin 16) (t : Fin 4096) :
    (decay D (ix3 b h t) : EReal) = -∑ x : Fin 3, (D (ix3 b t ⟨h.val * 3 + x.val, by omega⟩) : EReal) := by
  pointwise [decay]

/-- A logit: the product of query and key, and the difference of their gates. -/
theorem raw_apply (Q : FVec Ideal S8x1024x4096 .bf16) (K : FVec Ideal S8x4096x1024 .bf16) (C : FVec Ideal S8x16x4096 .f32)
    (b : Fin 8) (h : Fin 16) (q t : Fin 4096) :
    (raw Q K C (ix4 b h q t) : EReal)
      = ∑ x : Fin 64, (Q (ix3 b ⟨h.val * 64 + x.val, by omega⟩ q) : EReal) * (K (ix3 b t ⟨h.val * 64 + x.val, by omega⟩) : EReal)
        + ((C (ix3 b h q) : EReal) - (C (ix3 b h t) : EReal)) := by
  pointwise [raw]

/-- An exponential at an index. -/
theorem expo_apply (L : FVec Ideal S8x16x4096x4096 .f32) (M : FVec Ideal S8x16x4096 .f32)
    (b : Fin 8) (h : Fin 16) (q t : Fin 4096) :
    (expo L M (ix4 b h q t) : EReal) = Ideal.exp ((L (ix4 b h q t) : EReal) - (M (ix3 b h q) : EReal)) := by
  pointwise [expo]

/-- A weight: the exponential over the sum of its row's. -/
theorem norm_apply (E : FVec Ideal S8x16x4096x4096 .f32) (b : Fin 8) (h : Fin 16) (q t : Fin 4096) :
    (norm E (ix4 b h q t) : EReal) = Ideal.div (E (ix4 b h q t)) (∑ x : Fin 4096, (E (ix4 b h q x) : EReal)) := by
  pointwise [norm]

/-- An entry of the result: the weights times the head's values. -/
theorem mixed_apply (V : FVec Ideal S8x1280x4096 .bf16) (P : FVec Ideal S8x16x4096x4096 .f32)
    (b : Fin 8) (q : Fin 4096) (x : Fin 1024) :
    (mixed V P (ix3 b q x) : EReal)
      = ∑ s : Fin 4096, (V (ix3 b ⟨x.val / 64 * 80 + x.val % 64, by omega⟩ s) : EReal) * (P (ix4 b ⟨x.val / 64, by omega⟩ q s) : EReal) := by
  pointwise [mixed]

/-- The distance of a key to a query is not negative when the key comes first. -/
theorem dist_nonneg (q t : ℕ) (hq : q < 4096) (ht : t < 4096) :
    IntOp.cmpi .sge (IntOp.subi (BitVec.ofNat 32 q) (BitVec.ofNat 32 t)) 0#32 = 1#1 ↔ t ≤ q := by
  have hq' : (BitVec.ofNat 32 q).toInt = q := by rw [BitVec.toInt_ofNat', Int.bmod]; omega
  have ht' : (BitVec.ofNat 32 t).toInt = t := by rw [BitVec.toInt_ofNat', Int.bmod]; omega
  have h0 : (0#32 : BitVec 32).toInt = 0 := by decide
  rw [IntOp.cmpi_sge, IntOp.subi, BitVec.toInt_sub, hq', ht', h0, Int.bmod]
  omega

/-- The natural logarithm of two. -/
theorem log_two : Ideal.log (Ideal.ofBits .f32 0x40000000#32) = (Real.log 2 : EReal) := by
  have e : Ideal.ofBits .f32 0x40000000#32 = ((2 : ℝ) : EReal) := by
    simp [Ideal.ofBits, Ideal.ieee, -EReal.coe_mul]
    norm_num
  rw [e, Ideal.log_coe, if_neg (by norm_num)]

/-- A masked logit, in natural units: minus infinity where the key comes after the query. -/
theorem masked_apply (L : FVec Ideal S8x16x4096x4096 .f32) (b : Fin 8) (h : Fin 16) (q t : Fin 4096) :
    (masked L (ix4 b h q t) : EReal) = (if t.val ≤ q.val then (L (ix4 b h q t) : EReal) else ⊥) * (Real.log 2 : EReal) := by
  have e : (masked L (ix4 b h q t) : EReal)
      = Scalar.select (IntOp.cmpi .sge (IntOp.subi (BitVec.ofNat 32 q.val) (BitVec.ofNat 32 t.val)) 0#32) (L (ix4 b h q t) : EReal)
          (Ideal.ofBits .f32 0xFF800000#32) * Ideal.log (Ideal.ofBits .f32 0x40000000#32) := by
    pointwise [masked]
    rfl
  rw [e, log_two, Cert.Fox.ofBits_bot, Scalar.select]
  by_cases hl : t.val ≤ q.val
  · rw [if_pos (show _ = (1 : BitVec 1) from (dist_nonneg q t q.isLt t.isLt).mpr hl), if_pos hl]
  · rw [if_neg (show ¬_ = (1 : BitVec 1) from fun h => hl ((dist_nonneg q t q.isLt t.isLt).mp h)), if_neg hl]

/-- A reduction over the last of four axes by the maximum, at an index. -/
theorem reduce_last {a b c d : ℕ} (X : (⟨4, ![a, b, c, d]⟩ : Shape).Idx → EReal) (v : S_.Idx → EReal)
    (h' : (⟨4, ![a, b, c, d]⟩ : Shape).ReducesTo [3] ⟨3, ![a, b, c]⟩) (h : (⟨4, ![a, b, c, d]⟩ : Shape).Reduces [3] ⟨3, ![a, b, c]⟩)
    (i : Fin a) (j : Fin b) (k : Fin c) :
    Host.reduce (max : EReal → EReal → EReal) X v h' h_S_ (ix3 i j k)
      = (Finset.univ : Finset (Fin d)).fold max (v (Shape.Idx.first h_S_)) fun t => X (ix4 i j k t) := by
  refine (Host.reduce_eq_fold_single (max : EReal → EReal → EReal) X v h' h h_S_ (ix3 i j k)).trans ?_
  refine Finset.fold_congr fun t _ => ?_
  refine congrArg X (funext fun a => Fin.ext ?_)
  fin_cases a <;> rfl

/-- The maximum of two vectors of extended reals, at an index. -/
theorem max_apply {s : Shape} (x y : FVec Ideal s .f32) (i : s.Idx) :
    (maximumf x y i : EReal) = max (x i : EReal) (y i : EReal) := rfl

/-- The floating maximum is the maximum of extended reals. -/
theorem max_fun : (FloatOps.maximumf : Ideal .f32 → Ideal .f32 → Ideal .f32) = (max : EReal → EReal → EReal) := rfl

/-- A number broadcast, at an index. -/
theorem word_apply {t : Shape} (h : S_.BroadcastsInDim t (![] : Fin 0 → Fin t.rank)) (w : BitVec 32) (i : t.Idx) :
    (broadcastInDim t ![] h (constant (F := Ideal) S_ .f32 w) i : EReal) = Ideal.ofBits .f32 w := rfl

/-- A constant, at an index. -/
theorem constant_word (s : Shape) (w : BitVec 32) (i : s.Idx) : (constant (F := Ideal) s .f32 w i : EReal) = Ideal.ofBits .f32 w := rfl

/-- The last of the four axes can be dropped. -/
theorem reduces_last : S8x16x4096x4096.Reduces [3] S8x16x4096 := by decide

/-- The largest entry of a row with no top in it and something over the bottom is a real. -/
theorem rowMax_real (X : FVec Ideal S8x16x4096x4096 .f32) (b : Fin 8) (h : Fin 16) (q : Fin 4096)
    (ht : ∀ t : Fin 4096, (X (ix4 b h q t) : EReal) ≠ ⊤) (hb : (X (ix4 b h q 0) : EReal) ≠ ⊥) :
    ∃ M : ℝ, (rowMax X (ix3 b h q) : EReal) = (M : EReal) := by
  unfold rowMax
  rw [max_apply, word_apply, max_fun, reduce_last (a := 8) (b := 16) (c := 4096) (d := 4096) X _ _ reduces_last b h q, constant_word,
    Cert.Fox.ofBits_bot, max_eq_right bot_le]
  exact Cert.Fox.fold_max_real _ _ (fun t _ => ht t) 0 (Finset.mem_univ _) hb

/-! ## The whole -/

variable {A : Args}

/-- A decay entry is minus the limbs together. -/
theorem decay_real (G : A.Good) (b : Fin 8) (h : Fin 16) (t : Fin 4096) :
    (decay A.dec (ix3 b h t) : EReal) = ((-Cert.Fox.limbs A b h t : ℝ) : EReal) := by
  rw [decay_apply, EReal.coe_neg, ← Cert.Fox.limbs_eq G b h t h.isLt]
  refine congrArg Neg.neg (Finset.sum_congr rfl fun x _ => ?_)
  exact get3_of (a := 8) (b := 4096) (c := 128) A.dec _ b t (3 * h.val + x.val) rfl rfl (by show h.val * 3 + x.val = _; omega)

/-- The logits are the real ones, shifted by the query's decay. -/
theorem raw_real (G : A.Good) (b : Fin 8) (h : Fin 16) (q t : Fin 4096) :
    (raw A.qt A.k (decay A.dec) (ix4 b h q t) : EReal) = ((logit A b h q t + -Cert.Fox.limbs A b h q : ℝ) : EReal) := by
  rw [raw_apply, decay_real G, decay_real G, ← EReal.coe_sub]
  have e : ∑ x : Fin 64, (A.qt (ix3 b ⟨h.val * 64 + x.val, by omega⟩ q) : EReal) * (A.k (ix3 b t ⟨h.val * 64 + x.val, by omega⟩) : EReal)
      = (Cert.Fox.inner A b h q t : EReal) := by
    rw [← Cert.Fox.inner_eq G b h q t]
    refine Finset.sum_congr rfl fun x _ => ?_
    rw [mul_comm]
    exact congr (congrArg HMul.hMul (get3_of (a := 8) (b := 4096) (c := 1024) A.k _ b t (64 * h.val + x.val) rfl rfl
        (by show h.val * 64 + x.val = _; omega)))
      (get3_of (a := 8) (b := 1024) (c := 4096) A.qt _ b (64 * h.val + x.val) q rfl (by show h.val * 64 + x.val = _; omega) rfl)
  rw [e, ← EReal.coe_add]
  refine congrArg _ ?_
  unfold logit
  ring

/-- The masked logits, with the mask decided. -/
theorem masked_real (G : A.Good) (b : Fin 8) (h : Fin 16) (q t : Fin 4096) :
    (masked (raw A.qt A.k (decay A.dec)) (ix4 b h q t) : EReal)
      = (if t.val ≤ q.val then ((logit A b h q t + -Cert.Fox.limbs A b h q : ℝ) : EReal) else ⊥) * (Real.log 2 : EReal) := by
  rw [masked_apply, raw_real G]

/-- The largest logit of a query is a real. -/
theorem rowMax_masked (G : A.Good) (b : Fin 8) (h : Fin 16) (q : Fin 4096) :
    ∃ M : ℝ, (rowMax (masked (raw A.qt A.k (decay A.dec))) (ix3 b h q) : EReal) = (M : EReal) := by
  refine rowMax_real _ b h q (fun t => ?_) ?_
  · rw [masked_real G]
    split
    · rw [← EReal.coe_mul]
      exact EReal.coe_ne_top _
    · rw [EReal.bot_mul_coe_of_pos (Real.log_pos one_lt_two)]
      exact bot_ne_top
  · rw [masked_real G, if_pos (show ((0 : Fin 4096) : ℕ) ≤ (q : ℕ) from Nat.zero_le _), ← EReal.coe_mul]
    exact EReal.coe_ne_bot _

/-- The reference at an index is the attention of the query. -/
theorem attention_apply (G : A.Good) (b : Fin 8) (q : Fin 4096) (x : Fin 1024) :
    (attention A.qt A.k A.vt A.dec (ix3 b q x) : EReal)
      = Cert.Fox.att 4096 q (logit A b (x.val / 64) q) (fun key => get3 A.vt b (80 * (x.val / 64) + x.val % 64) key) := by
  have hx : x.val / 64 < 16 := by omega
  obtain ⟨M, hM⟩ := rowMax_masked G b ⟨x.val / 64, hx⟩ q
  set E : FVec Ideal S8x16x4096x4096 .f32 :=
    expo (masked (raw A.qt A.k (decay A.dec))) (rowMax (masked (raw A.qt A.k (decay A.dec)))) with hE
  let f : ℕ → EReal := fun key => if hk : key < 4096 then E (ix4 b ⟨x.val / 64, hx⟩ q ⟨key, hk⟩) else 0
  have ff : ∀ t : Fin 4096, (E (ix4 b ⟨x.val / 64, hx⟩ q t) : EReal) = f t.val := fun t => by
    show _ = (if hk : t.val < 4096 then E (ix4 b ⟨x.val / 64, hx⟩ q ⟨t.val, hk⟩) else 0 : EReal)
    rw [dif_pos t.isLt]
  have hN : ∀ t : Fin 4096, (norm E (ix4 b ⟨x.val / 64, hx⟩ q t) : EReal) = Ideal.div (f t) (∑ key ∈ Finset.range 4096, f key) := by
    intro t
    rw [norm_apply, ff t, Finset.sum_congr rfl fun s _ => ff s, ← Finset.sum_range f]
  unfold attention
  rw [mixed_apply, ← Cert.Fox.att_exp 4096 q (logit A b (x.val / 64) q) _ (by norm_num) (-Cert.Fox.limbs A b (x.val / 64) q) M f,
    Finset.sum_range]
  · refine Finset.sum_congr rfl fun t _ => congr (congrArg HMul.hMul ?_) (hN t)
    exact get3_of (a := 8) (b := 1280) (c := 4096) A.vt _ b (80 * (x.val / 64) + x.val % 64) t rfl
      (by show x.val / 64 * 80 + x.val % 64 = _; omega) rfl
  · intro key hk
    show (if hk : key < 4096 then E (ix4 b ⟨x.val / 64, hx⟩ q ⟨key, hk⟩) else 0 : EReal) = _
    rw [dif_pos hk, hE, expo_apply, masked_real G, hM]

end Cert.ReferenceIdeal.Fox

end
-- ==== Proof.Fox.Precondition.lean ====
/- What the precondition says of the call's arguments, entry by entry. -/
module

public import proofs.«01_k».proof.Pre_real_logits
public import proofs.«01_k».proof.Proof.Fox.Logit
public import Idealize.ShloMosaic.Lib.Pointwise

@[expose] public section

noncomputable section

namespace Cert.Pre_real_logits

open Idealize.ShloMosaic

/-- The side conditions of the precondition's operations. -/
instance facts : Facts where
  bitsLt_bf16_f32 := by decide
  shapeCasts_S8x1280x4096_S8x16x80x4096 := by decide
  slices_S8x16x80x4096_S8x16x1x4096_0_0_64_0 := by decide
  shapeCasts_S8x16x1x4096_S8x16x4096 := by decide
  bcast_S_S8x1024x4096 := by decide
  bcast_S_S8x4096x1024 := by decide
  slices_S8x4096x128_S8x4096x48_0_0_0 := by decide
  bcast_S_S8x4096x48 := by decide
  bcast_S_S8x16x4096 := by decide

open Facts
open Cert.Fox (get3 get3_of Args)

/-- The word of plus infinity. -/
theorem ofBits_top : Ideal.ofBits .f32 0x7F800000#32 = ⊤ := by
  simp [Ideal.ofBits, Ideal.ieee]

/-- An extended real whose absolute value is under the top is a real number. -/
theorem real_of_abs_lt (x : EReal) (h : Ideal.cmp .olt (max x (-x)) (Ideal.ofBits .f32 0x7F800000#32) = 1#1) :
    ∃ r : ℝ, x = (r : EReal) := by
  rw [ofBits_top] at h
  have h' : max x (-x) < ⊤ := by
    by_contra hn
    simp [Ideal.cmp, hn] at h
  induction x with
  | bot => simp at h'
  | coe r => exact ⟨r, rfl⟩
  | top => simp at h'

/-- An extended real comparing equal to the word of one is one. -/
theorem one_of_eq (x : EReal) (h : Ideal.cmp .oeq x (Ideal.ofBits .f32 0x3F800000#32) = 1#1) : x = 1 := by
  rw [Ideal.ofBits_one_f32] at h
  by_contra hn
  simp [Ideal.cmp, hn] at h

variable (Q : FVec Ideal S8x1024x4096 .bf16) (K : FVec Ideal S8x4096x1024 .bf16) (V : FVec Ideal S8x1280x4096 .bf16)
  (D : FVec Ideal S8x4096x128 .bf16)

/-- Where a vector's entries are under the top in absolute value. -/
def bounded {s : Shape} (x : FVec Ideal s .f32) (h : S_.BroadcastsInDim s (![] : Fin 0 → Fin s.rank)) : IVec s 1 :=
  cmpf .olt (Host.absf x) (broadcastInDim s ![] h (constant S_ .f32 0x7F800000#32))

/-- Such an entry is a real number. -/
theorem bounded_real {s : Shape} (x : FVec Ideal s .f32) (h : S_.BroadcastsInDim s (![] : Fin 0 → Fin s.rank)) (hb : bounded x h = fun _ => 1#1)
    (i : s.Idx) : ∃ r : ℝ, (x i : EReal) = (r : EReal) := by
  have e : bounded x h i = Ideal.cmp .olt (max (x i : EReal) (-(x i : EReal))) (Ideal.ofBits .f32 0x7F800000#32) := rfl
  exact real_of_abs_lt (x i) (e.symm.trans (congrFun hb i))

/-- The weight rows of the heads' values. -/
def weights : FVec Ideal S8x16x4096 .f32 :=
  shapeCast S8x16x4096 (extractStridedSlice S8x16x1x4096 ![0, 0, 64, 0]
    (shapeCast S8x16x80x4096 (extf .f32 V bitsLt_bf16_f32) shapeCasts_S8x1280x4096_S8x16x80x4096)
    slices_S8x16x80x4096_S8x16x1x4096_0_0_64_0) shapeCasts_S8x16x1x4096_S8x16x4096

/-- The limbs of the heads. -/
def heads : FVec Ideal S8x4096x48 .f32 :=
  extractStridedSlice S8x4096x48 ![0, 0, 0] (extf .f32 D bitsLt_bf16_f32) slices_S8x4096x128_S8x4096x48_0_0_0

/-- Where a vector's entries are one. -/
def unity {s : Shape} (x : FVec Ideal s .f32) (h : S_.BroadcastsInDim s (![] : Fin 0 → Fin s.rank)) : IVec s 1 :=
  cmpf .oeq x (broadcastInDim s ![] h (constant S_ .f32 0x3F800000#32))

/-- Such an entry is one. -/
theorem unity_one {s : Shape} (x : FVec Ideal s .f32) (h : S_.BroadcastsInDim s (![] : Fin 0 → Fin s.rank)) (hb : unity x h = fun _ => 1#1)
    (i : s.Idx) : (x i : EReal) = 1 := by
  have e : unity x h i = Ideal.cmp .oeq (x i : EReal) (Ideal.ofBits .f32 0x3F800000#32) := rfl
  exact one_of_eq (x i) (e.symm.trans (congrFun hb i))

/-- The precondition's four parts. -/
theorem fn_eq : fn (F := Ideal) Q K V D
    = (bounded (extf .f32 Q bitsLt_bf16_f32) bcast_S_S8x1024x4096, bounded (extf .f32 K bitsLt_bf16_f32) bcast_S_S8x4096x1024,
        bounded (heads D) bcast_S_S8x4096x48, unity (weights V) bcast_S_S8x16x4096) := rfl

/-- A weight row, from the values. -/
theorem weights_apply (b : Fin 8) (h : Fin 16) (t : Fin 4096) :
    (weights V (ix3 b h t) : EReal) = V (ix3 b ⟨h.val * 80 + 64, by omega⟩ t) := by
  pointwise [weights]

/-- A limb of a head, from the decay. -/
theorem heads_apply (b : Fin 8) (t : Fin 4096) (l : Fin 48) :
    (heads D (ix3 b t l) : EReal) = D (ix3 b t ⟨l.val, by omega⟩) := by
  pointwise [heads]

/-- The precondition, entry by entry. -/
theorem good
    (h : (fn (F := Ideal) Q K V D).1 = (fun _ => 1#1) ∧ (fn (F := Ideal) Q K V D).2.1 = (fun _ => 1#1)
      ∧ (fn (F := Ideal) Q K V D).2.2.1 = (fun _ => 1#1) ∧ (fn (F := Ideal) Q K V D).2.2.2 = fun _ => 1#1) :
    Args.Good ⟨Q, K, V, D⟩ := by
  rw [fn_eq] at h
  obtain ⟨h1, h2, h3, h4⟩ := h
  constructor
  · intro x
    exact bounded_real (extf .f32 Q bitsLt_bf16_f32) _ h1 x
  · intro x
    exact bounded_real (extf .f32 K bitsLt_bf16_f32) _ h2 x
  · intro x hx
    obtain ⟨r, hr⟩ := bounded_real (heads D) _ h3 (ix3 (x 0) (x 1) ⟨(x 2).val, hx⟩)
    refine ⟨r, Eq.trans ?_ ((heads_apply D (x 0) (x 1) ⟨(x 2).val, hx⟩).symm.trans hr)⟩
    refine congrArg D (funext fun a => ?_)
    fin_cases a <;> rfl
  · intro b g t hb hg ht
    refine (get3_of (a := 8) (b := 1280) (c := 4096) V (ix3 ⟨b, hb⟩ ⟨g * 80 + 64, by omega⟩ ⟨t, ht⟩) b (80 * g + 64) t rfl
      (by show g * 80 + 64 = _; omega) rfl).symm.trans ?_
    exact (weights_apply V ⟨b, hb⟩ ⟨g, hg⟩ ⟨t, ht⟩).symm.trans (unity_one (weights V) _ h4 (ix3 ⟨b, hb⟩ ⟨g, hg⟩ ⟨t, ht⟩))

end Cert.Pre_real_logits

end
-- ==== Proof.Ffn.Block.lean ====
/- One block of the feed-forward call: what the body leaves in the result's block and in the carried rows. -/
module

public import proofs.«01_k».proof.Proof.Gen.Kernel2Ideal.Value
public import Idealize.ShloMosaic.Lib.Pipeline.ValueKit
public import Idealize.ShloMosaic.Lib.VecWindow

@[expose] public section

set_option maxRecDepth 16384

noncomputable section

namespace Cert.Kernel2Ideal.Ffn

open Idealize.ShloMosaic hiding ix0 ix1 ix2 ix3 ix4 ix5
open Idealize.ShloMosaic.ValueIdx
open Idealize.ShloMosaic.Tactic Idealize.SL.Sem Cert.Kernel2Ideal Cert.Kernel2Ideal.Gen

variable {F : FTy → Type} [FloatOps F]

/-- The columns `o`, … of a matrix: `k` of them. -/
def cols {α : Type} {a b k : ℕ} [NeZero b] (x : (⟨2, ![a, b]⟩ : Shape).Idx → α) (o : ℕ) : (⟨2, ![a, k]⟩ : Shape).Idx → α :=
  fun y => x (ix2 (y 0) (Fin.ofNat b (o + (y 1).val)))

/-- The rows `o`, … of a matrix: `k` of them. -/
def rows {α : Type} {a b k : ℕ} [NeZero a] (x : (⟨2, ![a, b]⟩ : Shape).Idx → α) (o : ℕ) : (⟨2, ![k, b]⟩ : Shape).Idx → α :=
  fun y => x (ix2 (Fin.ofNat a (o + (y 0).val)) (y 1))

/-- A load of `k` whole columns of a matrix reads those columns. -/
theorem ld_cols {e : EltTy} {a b k : ℕ} [NeZero b] (x : (⟨2, ![a, b]⟩ : Shape).Idx → Elt F e) (o : ℕ)
    (inb : ∀ i, (![0, o] : Fin 2 → ℕ) i + (⟨2, ![a, k]⟩ : Shape).size i ≤ (⟨2, ![a, b]⟩ : Shape).size i) :
    View.ld x (Rect.unit (s := ⟨2, ![a, b]⟩) ![0, o] (⟨2, ![a, k]⟩ : Shape).size inb) = cols x o := by
  funext y
  have h1 : o + k ≤ b := inb 1
  have hy : (y 1).val < k := (y 1).isLt
  refine congrArg x ?_
  funext i; apply Fin.ext
  fin_cases i
  · show 0 + 1 * (y 0).val = (y 0).val; omega
  · show o + 1 * (y 1).val = (o + (y 1).val) % b; rw [Nat.mod_eq_of_lt (by omega)]; omega

/-- A load of `k` whole rows of a matrix reads those rows. -/
theorem ld_rows {e : EltTy} {a b k : ℕ} [NeZero a] (x : (⟨2, ![a, b]⟩ : Shape).Idx → Elt F e) (o : ℕ)
    (inb : ∀ i, (![o, 0] : Fin 2 → ℕ) i + (⟨2, ![k, b]⟩ : Shape).size i ≤ (⟨2, ![a, b]⟩ : Shape).size i) :
    View.ld x (Rect.unit (s := ⟨2, ![a, b]⟩) ![o, 0] (⟨2, ![k, b]⟩ : Shape).size inb) = rows x o := by
  funext y
  have h1 : o + k ≤ a := inb 0
  have hy : (y 0).val < k := (y 0).isLt
  refine congrArg x ?_
  funext i; apply Fin.ext
  fin_cases i
  · show o + 1 * (y 0).val = (o + (y 0).val) % a; rw [Nat.mod_eq_of_lt (by omega)]; omega
  · show 0 + 1 * (y 1).val = (y 1).val; omega

/-- 1024 rows from row `o` of a buffer of 8 carried rows and then 1024 new ones. -/
def shifted3 (o : ℕ) (u : Vec F S1x1024x256 .f32) (t : Vec F S1x8x256 .f32) : Vec F S1x1024x256 .f32 := fun x =>
  if h : o + (x 1).val < 8 then t (ix3 0 ⟨o + (x 1).val, h⟩ (x 2))
  else u (ix3 0 (Fin.ofNat 1024 (o + (x 1).val - 8)) (x 2))

/-- A block of rows has as many entries with a leading axis of one as without. -/
theorem numel_rows : S1024x256.numel = S1x1024x256.numel := rfl

/-- The same rows as a matrix. -/
def shifted (o : ℕ) (u : Vec F S1x1024x256 .f32) (t : Vec F S1x8x256 .f32) : Vec F S1024x256 .f32 := fun y =>
  shifted3 o u t (Shape.reshapeEquiv numel_rows y)

/-- The shifted rows at an index. -/
theorem shifted_apply (o : ℕ) (u : Vec F S1x1024x256 .f32) (t : Vec F S1x8x256 .f32) (y : S1024x256.Idx) :
    shifted o u t y = if h : o + (y 0).val < 8 then t (ix3 0 ⟨o + (y 0).val, h⟩ (y 1))
      else u (ix3 0 (Fin.ofNat 1024 (o + (y 0).val - 8)) (y 1)) := by
  have e : Shape.reshapeEquiv numel_rows y = Fin.cons ⟨0, Nat.one_pos⟩ y := Shape.reshapeEquiv_cons_one (d := S1024x256.size) _ y
  unfold shifted
  rw [e]
  rfl

/-- The gate's half of a slot just filled: the carried rows, then the new ones. -/
theorem canon_gate (uv : Vec F S1x1024x256 .f32) (tv : Vec F S1x8x256 .f32) (ug : Vec F S1x1024x256 .f32)
    (tg : Vec F S1x8x256 .f32) (L : List (View.Piece (Elt F) S2x1032x256 .f32)) (i1 i2 i3 i4) (i : Fin 1032) (j : Fin 256) :
    View.canon ((⟨Rect.unit ![1, 8, 0] S1x1024x256.size i1, uv⟩ : View.Piece (Elt F) S2x1032x256 .f32)
      :: ⟨Rect.unit ![1, 0, 0] S1x8x256.size i2, tv⟩ :: ⟨Rect.unit ![0, 8, 0] S1x1024x256.size i3, ug⟩
      :: ⟨Rect.unit ![0, 0, 0] S1x8x256.size i4, tg⟩ :: L) (ix3 0 i j)
      = if h : i.val < 8 then tg (ix3 0 ⟨i.val, h⟩ j) else ug (ix3 0 (Fin.ofNat 1024 (i.val - 8)) j) := by
  have hi := i.isLt
  rw [View.canon_cons_of_not_mem _ _ (Rect.not_mem_set_of_axis _ _ 0 1 1 rfl rfl rfl (.inl Nat.one_pos)),
    View.canon_cons_of_not_mem _ _ (Rect.not_mem_set_of_axis _ _ 0 1 1 rfl rfl rfl (.inl Nat.one_pos))]
  split
  · rename_i h
    rw [View.canon_cons_of_not_mem _ _ (Rect.not_mem_set_of_axis _ _ 1 8 1024 rfl rfl rfl (.inl h))]
    rw [← View.canon_cons_emb (s := S2x1032x256) (Val := Elt F) (e := .f32) (Rect.unit ![0, 0, 0] S1x8x256.size i4) tg L]
    refine congrArg _ (funext fun a => Fin.ext ?_)
    fin_cases a
    · rfl
    · show i.val = 0 + 1 * i.val; omega
    · show j.val = 0 + 1 * j.val; omega
  · rename_i h
    rw [← View.canon_cons_emb (s := S2x1032x256) (Val := Elt F) (e := .f32) (Rect.unit ![0, 8, 0] S1x1024x256.size i3) ug]
    refine congrArg _ (funext fun a => Fin.ext ?_)
    fin_cases a
    · rfl
    · show i.val = 8 + 1 * ((i.val - 8) % 1024); omega
    · show j.val = 0 + 1 * j.val; omega

/-- The value's half of a slot just filled: the carried rows, then the new ones. -/
theorem canon_value (uv : Vec F S1x1024x256 .f32) (tv : Vec F S1x8x256 .f32)
    (L : List (View.Piece (Elt F) S2x1032x256 .f32)) (i1 i2) (i : Fin 1032) (j : Fin 256) :
    View.canon ((⟨Rect.unit ![1, 8, 0] S1x1024x256.size i1, uv⟩ : View.Piece (Elt F) S2x1032x256 .f32)
      :: ⟨Rect.unit ![1, 0, 0] S1x8x256.size i2, tv⟩ :: L) (ix3 1 i j)
      = if h : i.val < 8 then tv (ix3 0 ⟨i.val, h⟩ j) else uv (ix3 0 (Fin.ofNat 1024 (i.val - 8)) j) := by
  have hi := i.isLt
  split
  · rename_i h
    rw [View.canon_cons_of_not_mem _ _ (Rect.not_mem_set_of_axis _ _ 1 8 1024 rfl rfl rfl (.inl h))]
    rw [← View.canon_cons_emb (s := S2x1032x256) (Val := Elt F) (e := .f32) (Rect.unit ![1, 0, 0] S1x8x256.size i2) tv L]
    refine congrArg _ (funext fun a => Fin.ext ?_)
    fin_cases a
    · rfl
    · show i.val = 0 + 1 * i.val; omega
    · show j.val = 0 + 1 * j.val; omega
  · rename_i h
    rw [← View.canon_cons_emb (s := S2x1032x256) (Val := Elt F) (e := .f32) (Rect.unit ![1, 8, 0] S1x1024x256.size i1) uv]
    refine congrArg _ (funext fun a => Fin.ext ?_)
    fin_cases a
    · rfl
    · show i.val = 8 + 1 * ((i.val - 8) % 1024); omega
    · show j.val = 0 + 1 * j.val; omega

/-- The box that a shifted load reads, at an index. -/
theorem slot_idx (p o : ℕ) (hp : p < 2) (ho : o ≤ 8) (i5 i6 ha hb h₀) (x : S1x1024x256.Idx) :
    ((Rect.unit (s := S2x1032x256) ![p, 0, 0] ![1, 1032, 256] i5).withinL
        ((Rect.unit (s := S1032x256) ![o, 0] ![1024, 256] i6).toLoadRect.consLift ![1, 1032, 256] ha hb) h₀).idx x
      = ix3 (⟨p, hp⟩ : Fin 2) (⟨o + (x 1).val, by have : (x 1).val < 1024 := (x 1).isLt; omega⟩ : Fin 1032) (x 2) := by
  funext a; apply Fin.ext
  have h0 : (x 0).val < 1 := (x 0).isLt
  fin_cases a
  · show p + 0 + 1 * (x 0).val = p; omega
  · show 0 + o + 1 * (x 1).val = o + (x 1).val; omega
  · show 0 + 0 + 1 * (x 2).val = (x 2).val; omega

/-- A shifted load of the gate's half of a slot just filled. -/
theorem load_gate {κ : Kind} {sp : Space} (v : View sig κ sp S2x1032x256 .f32)
    (uv : Vec F S1x1024x256 .f32) (tv : Vec F S1x8x256 .f32) (ug : Vec F S1x1024x256 .f32)
    (tg : Vec F S1x8x256 .f32) (L : List (View.Piece (Elt F) S2x1032x256 .f32)) (o : ℕ) (i1 i2 i3 i4 i5 i6 ha hb h₀) :
    v.readCov ((⟨Rect.unit ![1, 8, 0] ![1, 1024, 256] i1, uv⟩ : View.Piece (Elt F) S2x1032x256 .f32)
      :: ⟨Rect.unit ![1, 0, 0] ![1, 8, 256] i2, tv⟩ :: ⟨Rect.unit ![0, 8, 0] ![1, 1024, 256] i3, ug⟩
      :: ⟨Rect.unit ![0, 0, 0] ![1, 8, 256] i4, tg⟩ :: L)
      ((Rect.unit (s := S2x1032x256) ![0, 0, 0] ![1, 1032, 256] i5).withinL
        ((Rect.unit (s := S1032x256) ![o, 0] ![1024, 256] i6).toLoadRect.consLift ![1, 1032, 256] ha hb) h₀)
      = shifted3 o ug tg := by
  have ho : o ≤ 8 := by have : o + 1024 ≤ 1032 := i6 0; omega
  rw [View.readCov_eq_canon']
  funext x
  exact (congrArg _ (slot_idx 0 o (by omega) ho i5 i6 ha hb h₀ x)).trans (canon_gate uv tv ug tg L i1 i2 i3 i4 _ _)

/-- A shifted load of the value's half of a slot just filled. -/
theorem load_value {κ : Kind} {sp : Space} (v : View sig κ sp S2x1032x256 .f32)
    (uv : Vec F S1x1024x256 .f32) (tv : Vec F S1x8x256 .f32) (L : List (View.Piece (Elt F) S2x1032x256 .f32)) (o : ℕ)
    (i1 i2 i5 i6 ha hb h₀) :
    v.readCov ((⟨Rect.unit ![1, 8, 0] ![1, 1024, 256] i1, uv⟩ : View.Piece (Elt F) S2x1032x256 .f32)
      :: ⟨Rect.unit ![1, 0, 0] ![1, 8, 256] i2, tv⟩ :: L)
      ((Rect.unit (s := S2x1032x256) ![1, 0, 0] ![1, 1032, 256] i5).withinL
        ((Rect.unit (s := S1032x256) ![o, 0] ![1024, 256] i6).toLoadRect.consLift ![1, 1032, 256] ha hb) h₀)
      = shifted3 o uv tv := by
  have ho : o ≤ 8 := by have : o + 1024 ≤ 1032 := i6 0; omega
  rw [View.readCov_eq_canon']
  funext x
  exact (congrArg _ (slot_idx 1 o (by omega) ho i5 i6 ha hb h₀ x)).trans (canon_value uv tv L i1 i2 _ _)

/-- 256 columns of the up-projection's weights. -/
theorem ld_cols5 (x : Vec F S1024x5632 .bf16) (o : ℕ) (inb) :
    View.ld x (Rect.unit (s := S1024x5632) ![0, o] ![1024, 256] inb) = cols x o := ld_cols x o inb

/-- 256 columns of the convolution's weights. -/
theorem ld_cols6 (x : Vec F S3x5632 .f32) (o : ℕ) (inb) :
    View.ld x (Rect.unit (s := S3x5632) ![0, o] ![3, 256] inb) = cols x o := ld_cols x o inb

/-- 256 columns of the convolution's bias. -/
theorem ld_cols7 (x : Vec F S1x5632 .f32) (o : ℕ) (inb) :
    View.ld x (Rect.unit (s := S1x5632) ![0, o] ![1, 256] inb) = cols x o := ld_cols x o inb

/-- 256 columns of the carried rows. -/
theorem ld_colsT (x : Vec F S8x5632 .f32) (o : ℕ) (inb) :
    View.ld x (Rect.unit (s := S8x5632) ![0, o] ![8, 256] inb) = cols x o := ld_cols x o inb

/-- 256 rows of the down-projection's weights. -/
theorem ld_rows8 (x : Vec F S2816x1024 .bf16) (o : ℕ) (inb) :
    View.ld x (Rect.unit (s := S2816x1024) ![o, 0] ![256, 1024] inb) = rows x o := ld_rows x o inb

/-- A load of a whole 1024 by 1024 buffer just filled. -/
theorem load_whole {κ : Kind} {sp : Space} {e : EltTy} (v : View sig κ sp S1024x1024 e) (w : Vec F S1024x1024 e)
    (L : List (View.Piece (Elt F) S1024x1024 e)) (i1 i2) :
    v.readCov (⟨Rect.unit (s := S1024x1024) ![0, 0] ![1024, 1024] i1, w⟩ :: L)
      (Rect.unit (s := S1024x1024) ![0, 0] ![1024, 1024] i2).toLoadRect = w := View.readCov_full v i2 i1 w L

/-- A load of a whole block of the result just filled. -/
theorem load_whole3 {κ : Kind} {sp : Space} {e : EltTy} (v : View sig κ sp S1x1024x1024 e) (w : Vec F S1x1024x1024 e)
    (L : List (View.Piece (Elt F) S1x1024x1024 e)) (i1 i2) :
    v.readCov (⟨Rect.unit (s := S1x1024x1024) ![0, 0, 0] ![1, 1024, 1024] i1, w⟩ :: L)
      (Rect.unit (s := S1x1024x1024) ![0, 0, 0] ![1, 1024, 1024] i2).toLoadRect = w := View.readCov_full v i2 i1 w L

/-- Two zero offsets. -/
theorem hz2 : (![0, 0] : Fin 2 → Nat) = fun _ => 0 := funext fun a => by fin_cases a <;> rfl

/-- Three zero offsets. -/
theorem hz3 : (![0, 0, 0] : Fin 3 → Nat) = fun _ => 0 := funext fun a => by fin_cases a <;> rfl

/-- A load of carried columns that the newest store leaves alone. -/
theorem load_tail_miss {κ : Kind} {sp : Space} (v : View sig κ sp S8x5632 .f32) (w : Vec F S8x256 .f32)
    (L : List (View.Piece (Elt F) S8x5632 .f32)) (p o : ℕ) (i1 i2) (h : p + 256 ≤ o ∨ o + 256 ≤ p) :
    v.readCov (⟨Rect.unit (s := S8x5632) ![0, p] ![8, 256] i1, w⟩ :: L) (Rect.unit (s := S8x5632) ![0, o] ![8, 256] i2).toLoadRect
      = v.readCov L (Rect.unit (s := S8x5632) ![0, o] ![8, 256] i2).toLoadRect :=
  View.readCov_cons_of_disjoint v _ L _ (Rect.unit_disjoint (inb := i1) (inb' := i2) 1 h)

/-- A load of carried columns when the whole buffer was filled. -/
theorem load_tail_whole {κ : Kind} {sp : Space} (v : View sig κ sp S8x5632 .f32) (w : Vec F S8x5632 .f32)
    (L : List (View.Piece (Elt F) S8x5632 .f32)) (o : ℕ) (i1 i2) :
    v.readCov (⟨Rect.unit (s := S8x5632) ![0, 0] ![8, 5632] i1, w⟩ :: L) (Rect.unit (s := S8x5632) ![0, o] ![8, 256] i2).toLoadRect
      = cols w o := by
  rw [View.readCov_eq_canon', ← ld_colsT w o i2]
  have e : View.canon ((⟨Rect.unit (s := S8x5632) ![0, 0] ![8, 5632] i1, w⟩ : View.Piece (Elt F) S8x5632 .f32) :: L) = w :=
    View.canon_cons_unit_zero hz2 i1 w L
  rw [e]

/-- The normed rows that the up-projections read. -/
def normed (x0 : Vec F S1x1024x1024 .bf16) (x1 : Vec F S1024x1024 .bf16) (x2 : Vec F S1x1024 .f32) (x3 : Vec F S1x1024x1024 .f32)
    (x4 : Vec F S1x1024 .f32) : Vec F S1024x1024 .bf16 :=
  k0_pay7 (k0_pay3 x0 x1 x2 x3) (k0_pay5 x4) (k0_pay6 x0 x1 x2 x3) (Scalar.ofBits .f32 0x44800000#32)

/-- The convolution of 256 columns from column `o`. -/
def convCols (xn : Vec F S1024x1024 .bf16) (x5 : Vec F S1024x5632 .bf16) (x6 : Vec F S3x5632 .f32) (x7 : Vec F S1x5632 .f32)
    (xs : Vec F S8x5632 .f32) (o : ℕ) : FVec F S1024x256 .f32 :=
  k0_pay29 (cols x6 o) (cols x7 o) (shifted 8 (k0_pay11 xn (cols x5 o)) (k0_pay10 (cols xs o)))
    (shifted 7 (k0_pay11 xn (cols x5 o)) (k0_pay10 (cols xs o))) (shifted 6 (k0_pay11 xn (cols x5 o)) (k0_pay10 (cols xs o)))

/-- What 256 columns add to the running sum. -/
def step (xn : Vec F S1024x1024 .bf16) (x5 : Vec F S1024x5632 .bf16) (x6 : Vec F S3x5632 .f32) (x7 : Vec F S1x5632 .f32)
    (x8 : Vec F S2816x1024 .bf16) (xs : Vec F S8x5632 .f32) (o : ℕ) (acc : Vec F S1024x1024 .f32) : Vec F S1024x1024 .f32 :=
  k0_pay31 (convCols xn x5 x6 x7 xs o) (convCols xn x5 x6 x7 xs (2816 + o))
    (mulf (convCols xn x5 x6 x7 xs o) (convCols xn x5 x6 x7 xs o)) acc (rows x8 o)

/-- The running sum after `n` steps. -/
def sums (xn : Vec F S1024x1024 .bf16) (x5 : Vec F S1024x5632 .bf16) (x6 : Vec F S3x5632 .f32) (x7 : Vec F S1x5632 .f32)
    (x8 : Vec F S2816x1024 .bf16) (xs : Vec F S8x5632 .f32) : ℕ → Vec F S1024x1024 .f32
  | 0 => k0_pay8
  | n + 1 => step xn x5 x6 x7 x8 xs (256 * n) (sums xn x5 x6 x7 x8 xs n)

/-- The result's block. -/
def block (x0 : Vec F S1x1024x1024 .bf16) (x1 : Vec F S1024x1024 .bf16) (x2 : Vec F S1x1024 .f32) (x3 : Vec F S1x1024x1024 .f32)
    (x4 : Vec F S1x1024 .f32) (x5 : Vec F S1024x5632 .bf16) (x6 : Vec F S3x5632 .f32) (x7 : Vec F S1x5632 .f32)
    (x8 : Vec F S2816x1024 .bf16) (x9 : Vec F S1x1024 .f32) (xs : Vec F S8x5632 .f32) : Vec F S1x1024x1024 .f32 :=
  k0_pay1 (k0_pay160 (k0_pay4 x0 x1 x2 x3) (sums (normed x0 x1 x2 x3 x4) x5 x6 x7 x8 xs 11) x9)

/-- The rows carried to the next block: the last 8 of the up-projection. -/
def carried (xn : Vec F S1024x1024 .bf16) (x5 : Vec F S1024x5632 .bf16) : Vec F S8x5632 .f32 := fun y =>
  k0_pay12 xn (cols x5 (256 * ((y 1).val / 256))) (ix2 (y 0) (Fin.ofNat 256 (y 1).val))

/-- One store of carried rows is its part of them. -/
theorem carried_piece (xn : Vec F S1024x1024 .bf16) (x5 : Vec F S1024x5632 .bf16) (o : ℕ) (ho : o % 256 = 0) (inb) (x : S8x256.Idx) :
    k0_pay12 xn (cols x5 o) x = carried xn x5 ((Rect.unit (s := S8x5632) ![0, o] S8x256.size inb).emb x) := by
  have h1 : (x 1).val < 256 := (x 1).isLt
  have e0 : ((Rect.unit (s := S8x5632) ![0, o] S8x256.size inb).emb x 0).val = 0 + 1 * (x 0).val := rfl
  have e1 : ((Rect.unit (s := S8x5632) ![0, o] S8x256.size inb).emb x 1).val = o + 1 * (x 1).val := rfl
  unfold carried
  rw [e1, show 256 * ((o + 1 * (x 1).val) / 256) = o from by omega]
  refine congrArg _ (funext fun a => Fin.ext ?_)
  fin_cases a
  · show (x 0).val = _; exact (by omega : (x 0).val = 0 + 1 * (x 0).val).trans e0.symm
  · show (x 1).val = (o + 1 * (x 1).val) % 256; omega

/-- What the newest `n` stores leave where they cover, whatever came before them. -/
theorem read_newest {κ : Kind} {sp : Space} (v : View sig κ sp S8x5632 .f32) (f : v.ty.Contents (Elt F)) (G : Vec F S8x5632 .f32)
    (L : List (View.Piece (Elt F) S8x5632 .f32)) (n : ℕ) (hL : ∀ p ∈ L.take n, ∀ x : p.1.shape.Idx, p.2 x = G (p.1.emb x))
    (y : S8x5632.Idx) (hy : ∃ p ∈ L.take n, y ∈ p.1.set) : v.read (Elt F) (v.writes (Elt F) f L) y = G y := by
  rw [← List.take_append_drop n L, View.writes_append]
  exact View.read_writes_apply_of_pieces _ _ G _ hL y hy

end Cert.Kernel2Ideal.Ffn

end
-- ==== Proof.Ffn.Run.lean ====
/- What the body of the feed-forward call leaves in its result and in its carried rows, at the first block of a batch and at a later one. -/
module

public import proofs.«01_k».proof.Proof.Ffn.Block

@[expose] public section

set_option maxRecDepth 16384

noncomputable section

namespace Cert.Kernel2Ideal.Ffn

open Idealize.ShloMosaic hiding ix0 ix1 ix2 ix3 ix4 ix5
open Idealize.ShloMosaic.ValueIdx
open Idealize.ShloMosaic.Tactic Idealize.SL.Sem Cert.Kernel2Ideal Cert.Kernel2Ideal.Gen

variable {F : FTy → Type} [FloatOps F]

/-- What a later block of a batch leaves in the result. -/
theorem out_B (c : Dev nD) (i : grid0.Coords) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S2x1032x256 .f32) (harg15 : arg15.IsWhole) (arg16 : Memref sig .tc .vmem S2x1032x256 .f32) (harg16 : arg16.IsWhole) (arg17 : Memref sig .tc .vmem S8x5632 .f32) (harg17 : arg17.IsWhole) (hc0 : ¬cond0_0 i)
    (x0 : Vec F S1x1024x1024 .bf16) (x1 : Vec F S1024x1024 .bf16) (x2 : Vec F S1x1024 .f32) (x3 : Vec F S1x1024x1024 .f32) (x4 : Vec F S1x1024 .f32) (x5 : Vec F S1024x5632 .bf16) (x6 : Vec F S3x5632 .f32) (x7 : Vec F S1x5632 .f32) (x8 : Vec F S2816x1024 .bf16) (x9 : Vec F S1x1024 .f32) (xs4 : Vec F S8x5632 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs4 = block x0 x1 x2 x3 x4 x5 x6 x7 x8 x9 xs4 := by
  unfold out0_B_10
  rw [View.read_writes_junk_eq_canon]
  unfold kernelRun0_B
  dsimp only
  rw [View.canon_cons_unit_zero hz3]
  sl_unfold_words
  simp only [View.readAt_eq_ld, harg2.read_unread, harg3.read_unread, harg4.read_unread, harg5.read_unread, harg6.read_unread, harg7.read_unread, harg8.read_unread, harg9.read_unread, harg10.read_unread, harg11.read_unread, harg17.read_unread,
    load_gate, load_value, load_whole, load_whole3,
    View.ld_unit_zero (S := S1024x1024) hz2, View.ld_unit_zero (S := S1x1024) hz2, View.ld_unit_zero (S := S1x1024x1024) hz3,
    ld_cols5, ld_cols6, ld_cols7, ld_colsT, ld_rows8]
  rfl

/-- What the first block of a batch leaves in the result: the rows carried to it are zero. -/
theorem out_A (c : Dev nD) (i : grid0.Coords) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S2x1032x256 .f32) (harg15 : arg15.IsWhole) (arg16 : Memref sig .tc .vmem S2x1032x256 .f32) (harg16 : arg16.IsWhole) (arg17 : Memref sig .tc .vmem S8x5632 .f32) (harg17 : arg17.IsWhole) (hc0 : cond0_0 i)
    (x0 : Vec F S1x1024x1024 .bf16) (x1 : Vec F S1024x1024 .bf16) (x2 : Vec F S1x1024 .f32) (x3 : Vec F S1x1024x1024 .f32) (x4 : Vec F S1x1024 .f32) (x5 : Vec F S1024x5632 .bf16) (x6 : Vec F S3x5632 .f32) (x7 : Vec F S1x5632 .f32) (x8 : Vec F S2816x1024 .bf16) (x9 : Vec F S1x1024 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = block x0 x1 x2 x3 x4 x5 x6 x7 x8 x9 k0_pay2 := by
  unfold out0_A_10
  rw [View.read_writes_junk_eq_canon]
  unfold kernelRun0_A
  dsimp only
  rw [View.canon_cons_unit_zero hz3]
  sl_unfold_words
  simp (disch := omega) only [View.readAt_eq_ld, harg2.read_unread, harg3.read_unread, harg4.read_unread, harg5.read_unread, harg6.read_unread, harg7.read_unread, harg8.read_unread, harg9.read_unread, harg10.read_unread, harg11.read_unread, load_tail_miss, load_tail_whole,
    load_gate, load_value, load_whole, load_whole3,
    View.ld_unit_zero (S := S1024x1024) hz2, View.ld_unit_zero (S := S1x1024) hz2, View.ld_unit_zero (S := S1x1024x1024) hz3,
    ld_cols5, ld_cols6, ld_cols7, ld_colsT, ld_rows8]
  rfl

/-- The rows that a later block of a batch carries on. -/
theorem tail_B (c : Dev nD) (i : grid0.Coords) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S2x1032x256 .f32) (harg15 : arg15.IsWhole) (arg16 : Memref sig .tc .vmem S2x1032x256 .f32) (harg16 : arg16.IsWhole) (arg17 : Memref sig .tc .vmem S8x5632 .f32) (harg17 : arg17.IsWhole) (hc0 : ¬cond0_0 i)
    (x0 : Vec F S1x1024x1024 .bf16) (x1 : Vec F S1024x1024 .bf16) (x2 : Vec F S1x1024 .f32) (x3 : Vec F S1x1024x1024 .f32) (x4 : Vec F S1x1024 .f32) (x5 : Vec F S1024x5632 .bf16) (x6 : Vec F S3x5632 .f32) (x7 : Vec F S1x5632 .f32) (x8 : Vec F S2816x1024 .bf16) (x9 : Vec F S1x1024 .f32) (xs4 : Vec F S8x5632 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs4 = carried (normed x0 x1 x2 x3 x4) x5 := by
  unfold sout0_B_4
  funext y
  refine View.read_writes_apply_of_pieces _ _ _ _ ?_ y (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs4 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg17.read_unread,
    load_gate, load_value, load_whole, load_whole3,
    View.ld_unit_zero (S := S1024x1024) hz2, View.ld_unit_zero (S := S1x1024) hz2, View.ld_unit_zero (S := S1x1024x1024) hz3,
    ld_cols5, ld_cols6, ld_cols7, ld_colsT, ld_rows8]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_⟩
  all_goals exact fun x => carried_piece (normed x0 x1 x2 x3 x4) x5 _ (by decide) _ x

/-- The rows that the first block of a batch carries on. -/
theorem tail_A (c : Dev nD) (i : grid0.Coords) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S2x1032x256 .f32) (harg15 : arg15.IsWhole) (arg16 : Memref sig .tc .vmem S2x1032x256 .f32) (harg16 : arg16.IsWhole) (arg17 : Memref sig .tc .vmem S8x5632 .f32) (harg17 : arg17.IsWhole) (hc0 : cond0_0 i)
    (x0 : Vec F S1x1024x1024 .bf16) (x1 : Vec F S1024x1024 .bf16) (x2 : Vec F S1x1024 .f32) (x3 : Vec F S1x1024x1024 .f32) (x4 : Vec F S1x1024 .f32) (x5 : Vec F S1024x5632 .bf16) (x6 : Vec F S3x5632 .f32) (x7 : Vec F S1x5632 .f32) (x8 : Vec F S2816x1024 .bf16) (x9 : Vec F S1x1024 .f32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = carried (normed x0 x1 x2 x3 x4) x5 := by
  unfold sout0_A_4
  funext y
  refine read_newest _ _ _ _ 22 ?_ y (View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1.take 22) S8x256.size (by sl_kernel_rfl) y)
  unfold kernelRun0_A
  dsimp only
  sl_unfold_words
  simp (disch := omega) only [List.take_succ_cons, List.take_zero, View.readAt_eq_ld, harg2.read_unread, harg3.read_unread, harg4.read_unread, harg5.read_unread, harg6.read_unread, harg7.read_unread, harg8.read_unread, harg9.read_unread, harg10.read_unread, harg11.read_unread, load_tail_miss, load_tail_whole,
    load_gate, load_value, load_whole, load_whole3,
    View.ld_unit_zero (S := S1024x1024) hz2, View.ld_unit_zero (S := S1x1024) hz2, View.ld_unit_zero (S := S1x1024x1024) hz3,
    ld_cols5, ld_cols6, ld_cols7, ld_colsT, ld_rows8]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_⟩
  all_goals exact fun x => carried_piece (normed x0 x1 x2 x3 x4) x5 _ (by decide) _ x

end Cert.Kernel2Ideal.Ffn

end
-- ==== Proof.Ffn.Model.lean ====
/- The feed-forward part of a layer row by row, the floats being extended reals. -/
module

public import Idealize.ShloMosaic.Lib.Pointwise

@[expose] public section

noncomputable section

namespace Cert.Ffn

open Idealize.ShloMosaic

/-- A row over its root mean square, times the gain. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- A row of the residual after the attention: the row's projection, normed, and added. -/
def midRow (o : Fin 1024 → EReal) (wo : Fin 1024 → Fin 1024 → EReal) (g h : Fin 1024 → EReal) (d : Fin 1024) : EReal :=
  h d + rms (fun d => ∑ x, o x * wo x d) g d

/-- A row's up-projection. -/
def upRow (x : Fin 1024 → EReal) (w : Fin 1024 → Fin 5632 → EReal) (j : Fin 5632) : EReal := ∑ k, x k * w k j

/-- The convolution of three successive rows' entries, the newest first. -/
def conv (u0 u1 u2 : EReal) (w : Fin 3 → EReal) (b : EReal) : EReal := u0 * w 2 + u1 * w 1 + u2 * w 0 + b

/-- The gate's activation, times the value. -/
def gated (a v : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a)))))) * v

/-- The activation of column `k`, by the convolved columns. -/
def actAt (y : Fin 5632 → EReal) (k : Fin 2816) : EReal :=
  gated (y ⟨k.val, by omega⟩) (y ⟨2816 + k.val, by omega⟩)

/-- A row of the result: the activations' down-projection, normed, and added. -/
def outRow (h : Fin 1024 → EReal) (y : Fin 5632 → EReal) (w : Fin 2816 → Fin 1024 → EReal) (g : Fin 1024 → EReal) (d : Fin 1024) : EReal :=
  h d + rms (fun d => ∑ k, actAt y k * w k d) g d

end Cert.Ffn

end
-- ==== Proof.Ffn.Entries.lean ====
/- A block's entries, the floats being extended reals. -/
module

public import proofs.«01_k».proof.Proof.Ffn.Block
public import proofs.«01_k».proof.Proof.Ffn.Model
public import Idealize.ShloMosaic.Lib.Pointwise

@[expose] public section

set_option maxRecDepth 16384

noncomputable section

namespace Cert.Kernel2Ideal.Ffn

open Idealize.ShloMosaic Idealize.SL.Sem Cert.Kernel2Ideal Cert.Kernel2Ideal.Gen
open Cert.Ffn

/-- An entry of the residual after the attention. -/
theorem mid_apply (x0 : Vec Ideal S1x1024x1024 .bf16) (x1 : Vec Ideal S1024x1024 .bf16) (x2 : Vec Ideal S1x1024 .f32)
    (x3 : Vec Ideal S1x1024x1024 .f32) (r d : Fin 1024) :
    (k0_pay3 x0 x1 x2 x3 (ix2 r d) : EReal) = midRow (fun x => x0 (ix3 0 r x)) (fun x d => x1 (ix2 x d)) (fun d => x2 (ix2 0 d))
      (fun d => x3 (ix3 0 r d)) d := by
  unfold midRow rms
  pointwise [k0_pay3]

/-- An entry of the normed residual. -/
theorem normed_apply (x0 : Vec Ideal S1x1024x1024 .bf16) (x1 : Vec Ideal S1024x1024 .bf16) (x2 : Vec Ideal S1x1024 .f32)
    (x3 : Vec Ideal S1x1024x1024 .f32) (x4 : Vec Ideal S1x1024 .f32) (r d : Fin 1024) :
    (normed x0 x1 x2 x3 x4 (ix2 r d) : EReal) = rms (fun d => k0_pay3 x0 x1 x2 x3 (ix2 r d)) (fun d => x4 (ix2 0 d)) d := by
  unfold rms normed
  pointwise [k0_pay5, k0_pay6, k0_pay7]

/-- An entry of 256 columns of the up-projection. -/
theorem up_apply (xn : Vec Ideal S1024x1024 .bf16) (w : Vec Ideal S1024x256 .bf16) (r : Fin 1024) (j : Fin 256) :
    (k0_pay11 xn w (ix3 0 r j) : EReal) = ∑ k : Fin 1024, (xn (ix2 r k) : EReal) * w (ix2 k j) := by
  pointwise [k0_pay11, k0_pay9]

/-- An entry of the last 8 rows of 256 columns of the up-projection. -/
theorem last_apply (xn : Vec Ideal S1024x1024 .bf16) (w : Vec Ideal S1024x256 .bf16) (r : Fin 8) (j : Fin 256) :
    (k0_pay12 xn w (ix2 r j) : EReal) = ∑ k : Fin 1024, (xn (ix2 ⟨1016 + r.val, by omega⟩ k) : EReal) * w (ix2 k j) := by
  pointwise [k0_pay12, k0_pay9]

/-- An entry of the convolution, by the entries of three successive rows. -/
theorem conv_apply (w : Vec Ideal S3x256 .f32) (b : Vec Ideal S1x256 .f32) (u0 u1 u2 : Vec Ideal S1024x256 .f32) (r : Fin 1024) (j : Fin 256) :
    (k0_pay29 w b u0 u1 u2 (ix2 r j) : EReal) = conv (u0 (ix2 r j)) (u1 (ix2 r j)) (u2 (ix2 r j)) (fun i => w (ix2 i j)) (b (ix2 0 j)) := by
  unfold conv
  pointwise [k0_pay29]

/-- An entry of the running sum after a step. -/
theorem pay31_apply (a v : Vec Ideal S1024x256 .f32) (acc : Vec Ideal S1024x1024 .f32) (w : Vec Ideal S256x1024 .bf16) (r d : Fin 1024) :
    (k0_pay31 a v (mulf a a) acc w (ix2 r d) : EReal)
      = acc (ix2 r d) + ∑ k : Fin 256, gated (a (ix2 r k)) (v (ix2 r k)) * (w (ix2 k d) : EReal) := by
  unfold gated
  pointwise [k0_pay31]

/-- An entry of the result's block. -/
theorem final_apply (y : Vec Ideal S1x1024x1024 .f32) (s : Vec Ideal S1024x1024 .f32) (g : Vec Ideal S1x1024 .f32) (r d : Fin 1024) :
    (k0_pay1 (k0_pay160 y s g) (ix3 0 r d) : EReal)
      = (y (ix3 0 r d) : EReal) + rms (fun d => s (ix2 r d)) (fun d => g (ix2 0 d)) d := by
  unfold rms
  pointwise [k0_pay1, k0_pay160]

/-- The residual kept in the result's block. -/
theorem kept_apply (x0 : Vec Ideal S1x1024x1024 .bf16) (x1 : Vec Ideal S1024x1024 .bf16) (x2 : Vec Ideal S1x1024 .f32)
    (x3 : Vec Ideal S1x1024x1024 .f32) (r d : Fin 1024) :
    k0_pay4 x0 x1 x2 x3 (ix3 0 r d) = k0_pay3 x0 x1 x2 x3 (ix2 r d) := by
  unfold k0_pay4
  generalize k0_pay3 x0 x1 x2 x3 = y at *
  pointwise []

/-- The running sum starts at zero. -/
theorem start_apply (r d : Fin 1024) : (k0_pay8 (ix2 r d) : Ideal .f32) = (0 : EReal) := by
  pointwise [k0_pay8]

/-- Before a batch's first block, zeros are carried. -/
theorem zero_apply (r : Fin 8) (j : Fin 5632) : (k0_pay2 (ix2 r j) : Ideal .f32) = (0 : EReal) := by
  pointwise [k0_pay2]

/-- The carried rows, reshaped for the buffer. -/
theorem tail_apply (x : Vec Ideal S8x256 .f32) (r : Fin 8) (j : Fin 256) : k0_pay10 x (ix3 0 r j) = x (ix2 r j) := by
  pointwise [k0_pay10]

/-! ## A whole block -/

/-- An entry of some columns. -/
theorem cols_apply {α : Type} {a b k : ℕ} [NeZero b] (x : (⟨2, ![a, b]⟩ : Shape).Idx → α) (o : ℕ) (i : Fin a) (j : Fin k) :
    cols (k := k) x o (ix2 i j) = x (ix2 i (Fin.ofNat b (o + j.val))) := (congrArg x (ix2_eq_valueIdx _ _)).symm

/-- An entry of some rows. -/
theorem rows_apply {α : Type} {a b k : ℕ} [NeZero a] (x : (⟨2, ![a, b]⟩ : Shape).Idx → α) (o : ℕ) (i : Fin k) (j : Fin b) :
    rows (k := k) x o (ix2 i j) = x (ix2 (Fin.ofNat a (o + i.val)) j) := (congrArg x (ix2_eq_valueIdx _ _)).symm

/-- A row of the up-projection of a block. -/
def upOf (xn : Vec Ideal S1024x1024 .bf16) (x5 : Vec Ideal S1024x5632 .bf16) (r : Fin 1024) : Fin 5632 → EReal :=
  upRow (fun k => xn (ix2 r k)) (fun k j => x5 (ix2 k j))

/-- A row of the buffer: of the 8 carried ones, or of the block's up-projection. -/
def bufRow (xn : Vec Ideal S1024x1024 .bf16) (x5 : Vec Ideal S1024x5632 .bf16) (xs : Vec Ideal S8x5632 .f32) (i : ℕ) (j : Fin 5632) : EReal :=
  if h : i < 8 then xs (ix2 ⟨i, h⟩ j) else upOf xn x5 (Fin.ofNat 1024 (i - 8)) j

/-- The convolved columns of a row of a block. -/
def convOf (xn : Vec Ideal S1024x1024 .bf16) (x5 : Vec Ideal S1024x5632 .bf16) (x6 : Vec Ideal S3x5632 .f32) (x7 : Vec Ideal S1x5632 .f32)
    (xs : Vec Ideal S8x5632 .f32) (r : Fin 1024) (j : Fin 5632) : EReal :=
  conv (bufRow xn x5 xs (8 + r.val) j) (bufRow xn x5 xs (7 + r.val) j) (bufRow xn x5 xs (6 + r.val) j)
    (fun i => x6 (ix2 i j)) (x7 (ix2 0 j))

/-- The shifted rows of 256 columns are the buffer's. -/
theorem shifted_buf (xn : Vec Ideal S1024x1024 .bf16) (x5 : Vec Ideal S1024x5632 .bf16) (xs : Vec Ideal S8x5632 .f32) (p o : ℕ)
    (r : Fin 1024) (j : Fin 256) :
    (shifted p (k0_pay11 xn (cols x5 o)) (k0_pay10 (cols xs o)) (ix2 r j) : EReal) = bufRow xn x5 xs (p + r.val) (Fin.ofNat 5632 (o + j.val)) := by
  refine (shifted_apply p _ _ _).trans ?_
  unfold bufRow
  by_cases h : p + r.val < 8
  · rw [dif_pos h]
    refine (dif_pos h).trans ((congrArg _ (ix3_eq_valueIdx _ _ _).symm).trans ((tail_apply _ _ _).trans ?_))
    exact cols_apply xs o _ j
  · rw [dif_neg h]
    refine (dif_neg h).trans ?_
    refine (congrArg _ (ix3_eq_valueIdx _ _ _).symm).trans ((up_apply _ _ _ _).trans ?_)
    unfold upOf upRow
    exact Finset.sum_congr rfl fun k _ => congrArg _ (cols_apply x5 o k j)

/-- The convolution of 256 columns, by the block's convolved columns. -/
theorem convCols_apply (xn : Vec Ideal S1024x1024 .bf16) (x5 : Vec Ideal S1024x5632 .bf16) (x6 : Vec Ideal S3x5632 .f32)
    (x7 : Vec Ideal S1x5632 .f32) (xs : Vec Ideal S8x5632 .f32) (o : ℕ) (r : Fin 1024) (j : Fin 256) :
    (convCols xn x5 x6 x7 xs o (ix2 r j) : EReal) = convOf xn x5 x6 x7 xs r (Fin.ofNat 5632 (o + j.val)) := by
  unfold convCols convOf
  rw [conv_apply, shifted_buf, shifted_buf, shifted_buf, cols_apply]
  congr 1

/-- The running sum after `n` steps at an entry. -/
theorem sums_apply (xn : Vec Ideal S1024x1024 .bf16) (x5 : Vec Ideal S1024x5632 .bf16) (x6 : Vec Ideal S3x5632 .f32)
    (x7 : Vec Ideal S1x5632 .f32) (x8 : Vec Ideal S2816x1024 .bf16) (xs : Vec Ideal S8x5632 .f32) (r d : Fin 1024) :
    ∀ n, n ≤ 11 → (sums xn x5 x6 x7 x8 xs n (ix2 r d) : EReal)
      = ∑ t ∈ Finset.range n, ∑ k : Fin 256, actAt (convOf xn x5 x6 x7 xs r) (Fin.ofNat 2816 (256 * t + k.val))
          * (x8 (ix2 (Fin.ofNat 2816 (256 * t + k.val)) d) : EReal) := by
  intro n
  induction n with
  | zero => intro _; exact start_apply r d
  | succ n ih =>
    intro hn
    rw [Finset.sum_range_succ, ← ih (by omega)]
    refine (pay31_apply _ _ _ _ r d).trans (congrArg _ (Finset.sum_congr rfl fun k _ => ?_))
    have hk := k.isLt
    have e : (Fin.ofNat 2816 (256 * n + k.val)).val = 256 * n + k.val := Nat.mod_eq_of_lt (by omega)
    rw [convCols_apply, convCols_apply, rows_apply]
    unfold actAt
    congr 3
    · apply Fin.ext
      rw [e]
      exact Nat.mod_eq_of_lt (by omega)
    · apply Fin.ext
      refine (Nat.mod_eq_of_lt (by omega)).trans ?_
      show _ = 2816 + (Fin.ofNat 2816 (256 * n + k.val)).val
      rw [e, Nat.add_assoc]

/-- The whole running sum: all 2816 columns' activations, projected down. -/
theorem sums_whole (xn : Vec Ideal S1024x1024 .bf16) (x5 : Vec Ideal S1024x5632 .bf16) (x6 : Vec Ideal S3x5632 .f32)
    (x7 : Vec Ideal S1x5632 .f32) (x8 : Vec Ideal S2816x1024 .bf16) (xs : Vec Ideal S8x5632 .f32) (r d : Fin 1024) :
    (sums xn x5 x6 x7 x8 xs 11 (ix2 r d) : EReal) = ∑ k, actAt (convOf xn x5 x6 x7 xs r) k * (x8 (ix2 k d) : EReal) := by
  rw [sums_apply _ _ _ _ _ _ _ _ 11 le_rfl, Finset.sum_range, Fin.sum_univ_tiles 11 256 rfl]
  refine Finset.sum_congr rfl fun t _ => Finset.sum_congr rfl fun k _ => ?_
  have ht := t.isLt
  have hk := k.isLt
  have e : Fin.ofNat 2816 (256 * t.val + k.val) = ⟨t.val * 256 + k.val, by omega⟩ :=
    Fin.ext ((Nat.mod_eq_of_lt (by omega)).trans (show 256 * t.val + k.val = t.val * 256 + k.val by omega))
  rw [e]

/-- An entry of the result's block. -/
theorem block_apply (x0 : Vec Ideal S1x1024x1024 .bf16) (x1 : Vec Ideal S1024x1024 .bf16) (x2 : Vec Ideal S1x1024 .f32)
    (x3 : Vec Ideal S1x1024x1024 .f32) (x4 : Vec Ideal S1x1024 .f32) (x5 : Vec Ideal S1024x5632 .bf16) (x6 : Vec Ideal S3x5632 .f32)
    (x7 : Vec Ideal S1x5632 .f32) (x8 : Vec Ideal S2816x1024 .bf16) (x9 : Vec Ideal S1x1024 .f32) (xs : Vec Ideal S8x5632 .f32) (r d : Fin 1024) :
    (block x0 x1 x2 x3 x4 x5 x6 x7 x8 x9 xs (ix3 0 r d) : EReal)
      = outRow (fun d => k0_pay3 x0 x1 x2 x3 (ix2 r d)) (convOf (normed x0 x1 x2 x3 x4) x5 x6 x7 xs r) (fun k d => x8 (ix2 k d))
        (fun d => x9 (ix2 0 d)) d := by
  unfold outRow block
  rw [final_apply, kept_apply, ← funext (sums_whole (normed x0 x1 x2 x3 x4) x5 x6 x7 x8 xs r)]

/-- An entry of the carried rows: the up-projection's, 1016 rows on. -/
theorem carried_apply (xn : Vec Ideal S1024x1024 .bf16) (x5 : Vec Ideal S1024x5632 .bf16) (r : Fin 8) (j : Fin 5632) :
    (carried xn x5 (ix2 r j) : EReal) = upOf xn x5 ⟨1016 + r.val, by omega⟩ j := by
  have hj := j.isLt
  refine (congrArg _ (ix2_eq_valueIdx _ _).symm).trans ((last_apply _ _ _ _).trans ?_)
  unfold upOf upRow
  refine Finset.sum_congr rfl fun k _ => congrArg _ ((cols_apply x5 _ k _).trans ?_)
  congr 2
  apply Fin.ext
  show (256 * (j.val / 256) + j.val % 256) % 5632 = j.val
  omega

end Cert.Kernel2Ideal.Ffn

end
-- ==== Proof.Ffn.Reads.lean ====
/- The feed-forward call's blocks by the whole arrays they are blocks of, the floats being extended reals. -/
module

public import proofs.«01_k».proof.Proof.Gen.Kernel2Ideal.Value
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.Kernel2Ideal.Ffn

open Idealize.ShloMosaic Idealize.SL.Sem Cert.Kernel2Ideal Cert.Kernel2Ideal.Gen
open Idealize.ShloMosaic.TcCoe

/-- Every operand's block of a grid point. -/
theorem idx : ∀ t : Fin cfg0.N, win0_0.index t = ![t.val / 4, t.val % 4, 0] ∧ win0_1.index t = ![0, 0] ∧ win0_2.index t = ![0, 0]
    ∧ win0_3.index t = ![t.val / 4, t.val % 4, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ) (c : Dev nD) (t : Fin cfg0.N)

/-- A grid point's batch. -/
def bat : Fin 8 := ⟨t.val / 4, by have := lt_of_lt_of_eq t.isLt (show cfg0.N = 32 from N_0); omega⟩

/-- The row of the array that a row of a grid point's block is. -/
def row (r : Fin 1024) : Fin 4096 := ⟨1024 * (t.val % 4) + r.val, by omega⟩

/-- The attention's output. -/
theorem read0 (r x : Fin 1024) : iblk m c 0 t (ix3 0 r x) = m ((c : Thread nD τ).loc main_arg0) (ix3 (bat t) (row t r) x) := by
  unfold bat row
  blk_ext! [iblk, V_main_arg0, idx t]

/-- The output projection's weights. -/
theorem read1 (x d : Fin 1024) : iblk m c 1 t (ix2 x d) = m ((c : Thread nD τ).loc main_arg1) (ix2 x d) := by
  blk_ext! [iblk, V, idx t]

/-- The gain after the attention. -/
theorem read2 (d : Fin 1024) : iblk m c 2 t (ix2 0 d) = m ((c : Thread nD τ).loc main_arg2) (ix1 d) := by
  blk_ext! [iblk, V, idx t]

/-- The residual before the attention. -/
theorem read3 (r x : Fin 1024) : iblk m c 3 t (ix3 0 r x) = m ((c : Thread nD τ).loc main_arg3) (ix3 (bat t) (row t r) x) := by
  unfold bat row
  blk_ext! [iblk, V_main_arg3, idx t]

/-- The gain before the feed-forward part. -/
theorem read4 (d : Fin 1024) : iblk m c 4 t (ix2 0 d) = m ((c : Thread nD τ).loc main_arg4) (ix1 d) := by
  blk_ext! [iblk, V, idx t]

/-- The up-projection's weights. -/
theorem read5 (x : Fin 1024) (j : Fin 5632) : iblk m c 5 t (ix2 x j) = m ((c : Thread nD τ).loc main_arg5) (ix2 x j) := by
  blk_ext! [iblk, V, idx t]

/-- The convolution's weights. -/
theorem read6 (i : Fin 3) (j : Fin 5632) : iblk m c 6 t (ix2 i j) = m ((c : Thread nD τ).loc main_arg6) (ix2 i j) := by
  blk_ext! [iblk, V_main_arg6, idx t]

/-- The convolution's bias. -/
theorem read7 (j : Fin 5632) : iblk m c 7 t (ix2 0 j) = m ((c : Thread nD τ).loc main_arg7) (ix1 j) := by
  blk_ext! [iblk, V, idx t]

/-- The down-projection's weights. -/
theorem read8 (k : Fin 2816) (d : Fin 1024) : iblk m c 8 t (ix2 k d) = m ((c : Thread nD τ).loc main_arg8) (ix2 k d) := by
  blk_ext! [iblk, V, idx t]

/-- The gain after the feed-forward part. -/
theorem read9 (d : Fin 1024) : iblk m c 9 t (ix2 0 d) = m ((c : Thread nD τ).loc main_arg9) (ix1 d) := by
  blk_ext! [iblk, V, idx t]

end Cert.Kernel2Ideal.Ffn

end
-- ==== Proof.Ffn.Reference.lean ====
/- The feed-forward reference's result at an index, row by row. -/
module

public import proofs.«01_k».proof.Proof.Gen.Reference2Ideal.Run
public import proofs.«01_k».proof.Proof.Ffn.Model
public import Idealize.ShloMosaic.Lib.Pointwise

@[expose] public section

set_option maxRecDepth 16384

noncomputable section

namespace Cert.Reference2Ideal.Ffn

open Idealize.ShloMosaic Idealize.SL.Sem Cert.Reference2Ideal Cert.Reference2Ideal.Gen
open Cert.Ffn

/-- Every row over its root mean square, times the gain. -/
def normArr (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The output projection. -/
def projArr (o : FVec Ideal S8x4096x1024 .bf16) (w : FVec Ideal S1024x1024 .f32) : FVec Ideal S8x4096x1024 .f32 :=
  Host.dotGeneral dot_S8x4096x1024_S1024x1024_S8x4096x1024_2_0_01_1_n_n none (extf .f32 o bitsLt_bf16_f32) w

/-- The up-projection, with two rows of zeros before each batch. -/
def padArr (x : FVec Ideal S8x4096x1024 .f32) (w : FVec Ideal S1024x5632 .f32) : FVec Ideal S8x4098x5632 .f32 :=
  pad S8x4098x5632 ![0, 2, 0] ![0, 0, 0] ![0, 0, 0] (Host.dotGeneral dot_S8x4096x1024_S1024x5632_S8x4096x5632_2_0_01_1_n_n none x w) (sitofp .f32 (constantI S_ 32 0#32)) pads_S8x4096x5632_S8x4098x5632_000_200_000 h_S_

/-- The convolution. -/
def convArr (p : FVec Ideal S8x4098x5632 .f32) (w : FVec Ideal S3x5632 .f32) (b : FVec Ideal S5632 .f32) : FVec Ideal S8x4096x5632 .f32 :=
  addf (addf (addf (addf (broadcastInDim S8x4096x5632 ![] bcast_S_S8x4096x5632 (constant S_ .f32 0x00000000#32)) (mulf (extractStridedSlice S8x4096x5632 ![0, 0, 0] p slices_S8x4098x5632_S8x4096x5632_0_0_0) (broadcastInDim S8x4096x5632 ![0, 1, 2] bcast_S1x1x5632_S8x4096x5632_0_1_2 (broadcastInDim S1x1x5632 ![2] bcast_S5632_S1x1x5632_2 (shapeCast _ (extractStridedSlice S1x5632 ![0, 0] w slices_S3x5632_S1x5632_0_0) shapeCasts_S1x5632_S5632))))) (mulf (extractStridedSlice S8x4096x5632 ![0, 1, 0] p slices_S8x4098x5632_S8x4096x5632_0_1_0) (broadcastInDim S8x4096x5632 ![0, 1, 2] bcast_S1x1x5632_S8x4096x5632_0_1_2 (broadcastInDim S1x1x5632 ![2] bcast_S5632_S1x1x5632_2 (shapeCast _ (extractStridedSlice S1x5632 ![1, 0] w slices_S3x5632_S1x5632_1_0) shapeCasts_S1x5632_S5632))))) (mulf (extractStridedSlice S8x4096x5632 ![0, 2, 0] p slices_S8x4098x5632_S8x4096x5632_0_2_0) (broadcastInDim S8x4096x5632 ![0, 1, 2] bcast_S1x1x5632_S8x4096x5632_0_1_2 (broadcastInDim S1x1x5632 ![2] bcast_S5632_S1x1x5632_2 (shapeCast _ (extractStridedSlice S1x5632 ![2, 0] w slices_S3x5632_S1x5632_2_0) shapeCasts_S1x5632_S5632))))) (broadcastInDim S8x4096x5632 ![0, 1, 2] bcast_S1x1x5632_S8x4096x5632_0_1_2 (broadcastInDim S1x1x5632 ![2] bcast_S5632_S1x1x5632_2 b))

/-- The gates. -/
def gateArr (y : FVec Ideal S8x4096x5632 .f32) : FVec Ideal S8x4096x2816 .f32 :=
  extractStridedSlice S8x4096x2816 ![0, 0, 0] y slices_S8x4096x5632_S8x4096x2816_0_0_0

/-- The gates' activations times the values, projected down. -/
def downArr (y : FVec Ideal S8x4096x5632 .f32) (w : FVec Ideal S2816x1024 .f32) : FVec Ideal S8x4096x1024 .f32 :=
  Host.dotGeneral dot_S8x4096x2816_S2816x1024_S8x4096x1024_2_0_01_1_n_n none (mulf (mulf (gateArr y) (mulf (broadcastInDim S8x4096x2816 ![] bcast_S_S8x4096x2816 (constant S_ .f32 0x3F000000#32)) (addf (broadcastInDim S8x4096x2816 ![] bcast_S_S8x4096x2816 (constant S_ .f32 0x3F800000#32)) (Host.tanh (mulf (broadcastInDim S8x4096x2816 ![] bcast_S_S8x4096x2816 (constant S_ .f32 0x3F4C422A#32)) (addf (gateArr y) (mulf (broadcastInDim S8x4096x2816 ![] bcast_S_S8x4096x2816 (constant S_ .f32 0x3D372713#32)) (mulf (mulf (gateArr y) (gateArr y)) (gateArr y))))))))) (extractStridedSlice S8x4096x2816 ![0, 0, 2816] y slices_S8x4096x5632_S8x4096x2816_0_0_2816)) w

/-- The residual after the attention. -/
def midArr (o : FVec Ideal S8x4096x1024 .bf16) (wo : FVec Ideal S1024x1024 .f32) (g : FVec Ideal S1024 .f32)
    (h : FVec Ideal S8x4096x1024 .f32) : FVec Ideal S8x4096x1024 .f32 := addf h (normArr (projArr o wo) g)

/-- The reference as a function of its arguments. -/
def ffn (o : FVec Ideal S8x4096x1024 .bf16) (wo : FVec Ideal S1024x1024 .f32) (ga : FVec Ideal S1024 .f32)
    (h : FVec Ideal S8x4096x1024 .f32) (gp : FVec Ideal S1024 .f32) (wi : FVec Ideal S1024x5632 .f32) (cw : FVec Ideal S3x5632 .f32)
    (cb : FVec Ideal S5632 .f32) (wd : FVec Ideal S2816x1024 .f32) (gq : FVec Ideal S1024 .f32) : FVec Ideal S8x4096x1024 .f32 :=
  addf (midArr o wo ga h) (normArr (downArr (convArr (padArr (normArr (midArr o wo ga h) gp) wi) cw cb) wd) gq)

/-! ## Each piece at an index -/

/-- An entry of a normed row. -/
theorem norm_apply (x : FVec Ideal S8x4096x1024 .f32) (g : FVec Ideal S1024 .f32) (b : Fin 8) (s : Fin 4096) (d : Fin 1024) :
    (normArr x g (ix3 b s d) : EReal) = rms (fun d => x (ix3 b s d)) (fun d => g (ix1 d)) d := by
  unfold rms
  pointwise [normArr]

/-- An entry of the output projection. -/
theorem proj_apply (o : FVec Ideal S8x4096x1024 .bf16) (w : FVec Ideal S1024x1024 .f32) (b : Fin 8) (s : Fin 4096) (d : Fin 1024) :
    (projArr o w (ix3 b s d) : EReal) = ∑ x : Fin 1024, (o (ix3 b s x) : EReal) * w (ix2 x d) := by
  pointwise [projArr]

/-- An entry of the residual after the attention. -/
theorem mid_apply (o : FVec Ideal S8x4096x1024 .bf16) (wo : FVec Ideal S1024x1024 .f32) (g : FVec Ideal S1024 .f32)
    (h : FVec Ideal S8x4096x1024 .f32) (b : Fin 8) (s : Fin 4096) (d : Fin 1024) :
    (midArr o wo g h (ix3 b s d) : EReal) = midRow (fun x => o (ix3 b s x)) (fun x d => wo (ix2 x d)) (fun d => g (ix1 d))
      (fun d => h (ix3 b s d)) d := by
  unfold midRow midArr
  rw [← funext (proj_apply o wo b s), ← norm_apply]
  pointwise []

/-- An entry of the padded up-projection: of two rows before, or zero. -/
theorem pad_apply (x : FVec Ideal S8x4096x1024 .f32) (w : FVec Ideal S1024x5632 .f32) (b : Fin 8) (s : Fin 4098) (j : Fin 5632) :
    (padArr x w (ix3 b s j) : EReal)
      = if h : 2 ≤ s.val then upRow (fun k => x (ix3 b ⟨s.val - 2, by omega⟩ k)) (fun k j => w (ix2 k j)) j else 0 := by
  unfold upRow
  have e : (FloatOps.sitofp .f32 0#32 : Ideal .f32) = (0 : EReal) := by
    show (((0#32 : BitVec 32).toInt : ℝ) : EReal) = 0
    simp
  pointwise [padArr]
  by_cases h : 2 ≤ s.val
  · rw [dif_pos ⟨h, by omega⟩, dif_pos h]
  · rw [dif_neg (fun h' => h h'.1), dif_neg h]
    exact e

/-- An entry of the convolution, by three successive padded rows. -/
theorem conv_apply (p : FVec Ideal S8x4098x5632 .f32) (w : FVec Ideal S3x5632 .f32) (c : FVec Ideal S5632 .f32)
    (b : Fin 8) (s : Fin 4096) (j : Fin 5632) :
    (convArr p w c (ix3 b s j) : EReal) = conv (p (ix3 b ⟨2 + s.val, by omega⟩ j)) (p (ix3 b ⟨1 + s.val, by omega⟩ j))
      (p (ix3 b ⟨s.val, by omega⟩ j)) (fun i => w (ix2 i j)) (c (ix1 j)) := by
  unfold conv
  pointwise [convArr]
  congr 1
  ac_rfl

/-- An entry of the down-projection. -/
theorem down_apply (y : FVec Ideal S8x4096x5632 .f32) (w : FVec Ideal S2816x1024 .f32) (b : Fin 8) (s : Fin 4096) (d : Fin 1024) :
    (downArr y w (ix3 b s d) : EReal) = ∑ k, actAt (fun j => y (ix3 b s j)) k * (w (ix2 k d) : EReal) := by
  unfold actAt gated
  pointwise [downArr, gateArr]
  simp only [mul_assoc]

/-- The reference's result at an index, by the padded up-projection of the normed rows. -/
theorem ffn_apply (o : FVec Ideal S8x4096x1024 .bf16) (wo : FVec Ideal S1024x1024 .f32) (ga : FVec Ideal S1024 .f32)
    (h : FVec Ideal S8x4096x1024 .f32) (gp : FVec Ideal S1024 .f32) (wi : FVec Ideal S1024x5632 .f32) (cw : FVec Ideal S3x5632 .f32)
    (cb : FVec Ideal S5632 .f32) (wd : FVec Ideal S2816x1024 .f32) (gq : FVec Ideal S1024 .f32) (b : Fin 8) (s : Fin 4096) (d : Fin 1024) :
    (ffn o wo ga h gp wi cw cb wd gq (ix3 b s d) : EReal)
      = outRow (fun d => midArr o wo ga h (ix3 b s d)) (fun j => convArr (padArr (normArr (midArr o wo ga h) gp) wi) cw cb (ix3 b s j))
        (fun k d => wd (ix2 k d)) (fun d => gq (ix1 d)) d := by
  unfold outRow ffn
  rw [← funext (down_apply _ wd b s), ← norm_apply]
  pointwise []

/-- The printed reference's result is that function of its arguments. -/
theorem res_eq (m : (ℓ : Loc nD τ sig) → Buf (Elt Ideal) ℓ) (c : Dev nD) :
    addf (Value.res_main_v15 (StableHlo.launchContents m c)) (mulf (mulf (Value.res_main_v72 (StableHlo.launchContents m c)) (broadcastInDim S8x4096x1024 ![0, 1, 2]
      bcast_S8x4096x1_S8x4096x1024_0_1_2 (Host.rsqrt (addf (Host.divf (broadcastInDim S8x4096x1 ![0, 1] bcast_S8x4096_S8x4096x1_0_1
      (Host.reduceAdd (mulf (Value.res_main_v72 (StableHlo.launchContents m c)) (Value.res_main_v72 (StableHlo.launchContents m c))) (constant S_ .f32 0x00000000#32)
      reducesTo_S8x4096x1024_S8x4096_d2 h_S_)) (broadcastInDim S8x4096x1 ![] bcast_S_S8x4096x1 (constant S_ .f32 0x44800000#32)))
      (broadcastInDim S8x4096x1 ![] bcast_S_S8x4096x1 (constant S_ .f32 0x358637BD#32)))))) (broadcastInDim S8x4096x1024 ![0, 1, 2]
      bcast_S1x1x1024_S8x4096x1024_0_1_2 (broadcastInDim S1x1x1024 ![2] bcast_S1024_S1x1x1024_2 ((StableHlo.launchContents m c) (Proc.devRef .tc main_arg9)))))
    = ffn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

end Cert.Reference2Ideal.Ffn

end
-- ==== Proof.Ffn.Whole.lean ====
/- The feed-forward call's result at an index is its reference's, the floats being extended reals. -/
module

public import proofs.«01_k».proof.Proof.Ffn.Run
public import proofs.«01_k».proof.Proof.Ffn.Entries
public import proofs.«01_k».proof.Proof.Ffn.Reads
public import proofs.«01_k».proof.Proof.Ffn.Reference

@[expose] public section

set_option maxRecDepth 16384

noncomputable section

namespace Cert.Kernel2Ideal.Ffn

open Idealize.ShloMosaic Idealize.SL.Sem Cert.Kernel2Ideal Cert.Kernel2Ideal.Gen
open Idealize.ShloMosaic.TcCoe
open Cert.Ffn
open Cert.Reference2Ideal.Ffn (ffn midArr normArr padArr convArr)

variable (m : (ℓ : Loc nD τ sig) → Buf (Elt Ideal) ℓ) (c : Dev nD)

/-! ## What a grid point leaves, by its blocks -/

/-- The normed rows of a grid point. -/
def xnAt (t : Fin cfg0.N) : Vec Ideal S1024x1024 .bf16 :=
  normed (iblk m c 0 t) (iblk m c 1 t) (iblk m c 2 t) (iblk m c 3 t) (iblk m c 4 t)

/-- The carried rows that a grid point starts from: zeros at a batch's first, else the last rows of the point before. -/
def startAt (t : Fin cfg0.N) : Vec Ideal S8x5632 .f32 :=
  if t.val % 4 = 0 then k0_pay2 (F := Ideal)
  else carried (xnAt m c ⟨t.val - 1, Nat.lt_of_le_of_lt (Nat.sub_le _ _) t.isLt⟩) (iblk m c 5 ⟨t.val - 1, Nat.lt_of_le_of_lt (Nat.sub_le _ _) t.isLt⟩)

/-- A grid point carries on the last rows of its block. -/
theorem tail_at (t : Fin cfg0.N) : (outsAt0 m c t.val t.isLt).2 = carried (xnAt m c t) (iblk m c 5 t) := by
  by_cases h : t.val % 4 = 0
  · rw [outsAt0_A m c t h]
    dsimp only
    rw [tail_A]
    rfl
  · rw [outsAt0_B m c t h]
    dsimp only
    rw [tail_B]
    rfl

/-- A grid point leaves its block of the result. -/
theorem out_at (t : Fin cfg0.N) : (outsAt0 m c t.val t.isLt).1
    = block (iblk m c 0 t) (iblk m c 1 t) (iblk m c 2 t) (iblk m c 3 t) (iblk m c 4 t) (iblk m c 5 t) (iblk m c 6 t) (iblk m c 7 t)
      (iblk m c 8 t) (iblk m c 9 t) (startAt m c t) := by
  unfold startAt
  by_cases h : t.val % 4 = 0
  · rw [outsAt0_A m c t h, if_pos h]
    dsimp only
    rw [out_A]
  · rw [outsAt0_B m c t h, if_neg h, ← tail_at m c ⟨t.val - 1, _⟩]
    dsimp only
    rw [out_B]

/-! ## The same, by the arguments -/

/-- The residual after the attention, of the arguments. -/
def midOf : FVec Ideal Cert.Reference2Ideal.S8x4096x1024 .f32 :=
  midArr (m ((c : Thread nD τ).loc main_arg0)) (m ((c : Thread nD τ).loc main_arg1)) (m ((c : Thread nD τ).loc main_arg2))
    (m ((c : Thread nD τ).loc main_arg3))

/-- The normed residual, of the arguments. -/
def normOf : FVec Ideal Cert.Reference2Ideal.S8x4096x1024 .f32 := normArr (midOf m c) (m ((c : Thread nD τ).loc main_arg4))

/-- The padded up-projection, of the arguments. -/
def padOf : FVec Ideal Cert.Reference2Ideal.S8x4098x5632 .f32 := padArr (normOf m c) (m ((c : Thread nD τ).loc main_arg5))

/-- The reference of the kernel's arguments. -/
def ffnOf : FVec Ideal Cert.Reference2Ideal.S8x4096x1024 .f32 :=
  ffn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- A grid point's residual is its rows of the whole one. -/
theorem mid_at (t : Fin cfg0.N) (r d : Fin 1024) :
    (k0_pay3 (iblk m c 0 t) (iblk m c 1 t) (iblk m c 2 t) (iblk m c 3 t) (ix2 r d) : EReal) = midOf m c (ix3 (bat t) (row t r) d) := by
  refine (mid_apply _ _ _ _ r d).trans (Eq.trans ?_ (Cert.Reference2Ideal.Ffn.mid_apply _ _ _ _ (bat t) (row t r) d).symm)
  have e0 := fun x => read0 m c t r x
  have e1 := fun x d => read1 m c t x d
  have e2 := fun d => read2 m c t d
  have e3 := fun d => read3 m c t r d
  simp only [e0, e1, e2, e3]

/-- A grid point's normed rows are its rows of the whole. -/
theorem norm_at (t : Fin cfg0.N) (r d : Fin 1024) : (xnAt m c t (ix2 r d) : EReal) = normOf m c (ix3 (bat t) (row t r) d) := by
  refine (normed_apply _ _ _ _ _ r d).trans (Eq.trans ?_ (Cert.Reference2Ideal.Ffn.norm_apply _ _ (bat t) (row t r) d).symm)
  have e0 := fun d => mid_at m c t r d
  have e4 := fun d => read4 m c t d
  simp only [e0, e4]

/-- A grid point's up-projection is its rows of the whole, two rows on after padding. -/
theorem up_at (t : Fin cfg0.N) (r : Fin 1024) (j : Fin 5632) (s : Fin 4098) (hs : s.val = (row t r).val + 2) :
    upOf (xnAt m c t) (iblk m c 5 t) r j = padOf m c (ix3 (bat t) s j) := by
  refine Eq.trans ?_ (Cert.Reference2Ideal.Ffn.pad_apply _ _ (bat t) s j).symm
  rw [dif_pos (by omega)]
  have hr : (⟨s.val - 2, by omega⟩ : Fin 4096) = row t r := Fin.ext (by show s.val - 2 = _; omega)
  rw [hr]
  unfold upOf
  have e0 := fun d => norm_at m c t r d
  have e5 := fun x j => read5 m c t x j
  simp only [e0, e5]

/-- The buffer's rows from the sixth on are the padded up-projection's. -/
theorem buf_at (t : Fin cfg0.N) (i : ℕ) (hi : 6 ≤ i) (hi' : i < 1032) (j : Fin 5632) (s : Fin 4098) (hs : s.val + 6 = 1024 * (t.val % 4) + i) :
    bufRow (xnAt m c t) (iblk m c 5 t) (startAt m c t) i j = padOf m c (ix3 (bat t) s j) := by
  have hN := lt_of_lt_of_eq t.isLt (show cfg0.N = 32 from N_0)
  unfold bufRow
  by_cases h : i < 8
  · rw [dif_pos h]
    unfold startAt
    by_cases h0 : t.val % 4 = 0
    · rw [if_pos h0]
      refine (zero_apply _ _).trans (Eq.trans ?_ (Cert.Reference2Ideal.Ffn.pad_apply _ _ (bat t) s j).symm)
      rw [dif_neg (by omega)]
    · rw [if_neg h0]
      refine (carried_apply _ _ _ _).trans ((up_at m c _ _ j s ?_).trans ?_)
      · show s.val = 1024 * ((t.val - 1) % 4) + (1016 + i) + 2
        omega
      · have hb : bat ⟨t.val - 1, Nat.lt_of_le_of_lt (Nat.sub_le _ _) t.isLt⟩ = bat t :=
          Fin.ext (show (t.val - 1) / 4 = t.val / 4 by omega)
        rw [hb]
  · rw [dif_neg h]
    refine up_at m c t _ j s ?_
    show s.val = 1024 * (t.val % 4) + (i - 8) % 1024 + 2
    omega

/-- A grid point's convolved columns are its rows of the whole. -/
theorem conv_at (t : Fin cfg0.N) (r : Fin 1024) (j : Fin 5632) :
    convOf (xnAt m c t) (iblk m c 5 t) (iblk m c 6 t) (iblk m c 7 t) (startAt m c t) r j
      = convArr (padOf m c) (m ((c : Thread nD τ).loc main_arg6)) (m ((c : Thread nD τ).loc main_arg7)) (ix3 (bat t) (row t r) j) := by
  refine Eq.trans ?_ (Cert.Reference2Ideal.Ffn.conv_apply _ _ _ (bat t) (row t r) j).symm
  have hr := r.isLt
  have hv : (row t r).val = 1024 * (t.val % 4) + r.val := rfl
  unfold convOf
  rw [buf_at m c t (8 + r.val) (by omega) (by omega) j ⟨2 + (row t r).val, by omega⟩ (by show 2 + (row t r).val + 6 = _; omega),
    buf_at m c t (7 + r.val) (by omega) (by omega) j ⟨1 + (row t r).val, by omega⟩ (by show 1 + (row t r).val + 6 = _; omega),
    buf_at m c t (6 + r.val) (by omega) (by omega) j ⟨(row t r).val, by omega⟩ (by show (row t r).val + 6 = _; omega)]
  have e6 := fun i => read6 m c t i j
  have e7 := read7 m c t j
  simp only [e6, e7]

/-- An entry of a grid point's block of the result is the reference's. -/
theorem out_entry (t : Fin cfg0.N) (r d : Fin 1024) :
    ((outsAt0 m c t.val t.isLt).1 (ix3 0 r d) : EReal) = ffnOf m c (ix3 (bat t) (row t r) d) := by
  rw [out_at]
  refine (block_apply _ _ _ _ _ _ _ _ _ _ _ r d).trans (Eq.trans ?_ (Cert.Reference2Ideal.Ffn.ffn_apply _ _ _ _ _ _ _ _ _ _ (bat t) (row t r) d).symm)
  have e0 := fun d => mid_at m c t r d
  have e1 := funext fun j => conv_at m c t r j
  have e8 := fun k d => read8 m c t k d
  have e9 := fun d => read9 m c t d
  unfold xnAt at e1
  simp only [e0, e1, e8, e9]
  rfl

/-- The call's result is its reference's. -/
theorem result_eq : Value.G10 m c = ffnOf m c := by
  funext i
  have h0 : (i 0).val < 8 := (i 0).isLt
  have h1 : (i 1).val < 4096 := (i 1).isLt
  have h2 : (i 2).val < 1024 := (i 2).isLt
  have hp : Value.pt10Of i < cfg0.N := by
    rw [show cfg0.N = 32 from N_0]
    show 4 * ((i 0).val / 1 - 0) + 1 * ((i 1).val / 1024 - 0) + 1 * ((i 2).val / 1024 - 0) < 32
    omega
  have hv : Value.pt10Of i = 4 * (i 0).val + (i 1).val / 1024 := by
    show 4 * ((i 0).val / 1 - 0) + 1 * ((i 1).val / 1024 - 0) + 1 * ((i 2).val / 1024 - 0) = _
    omega
  unfold Value.G10
  rw [dif_pos hp, ← Value.outsAt0_sweep m c _ hp]
  have hl : Value.loc10Of i = ix3 0 ⟨(i 1).val % 1024, Nat.mod_lt _ (by decide)⟩ (i 2) := by
    funext a
    apply Fin.ext
    match a with
    | ⟨0, _⟩ => show (i 0).val % 1 = 0; omega
    | ⟨1, _⟩ => rfl
    | ⟨2, _⟩ => show (i 2).val % 1024 = (i 2).val; omega
  rw [hl]
  refine (out_entry m c ⟨Value.pt10Of i, hp⟩ _ _).trans (congrArg (ffnOf m c) ?_)
  funext a
  apply Fin.ext
  match a with
  | ⟨0, _⟩ => show Value.pt10Of i / 4 = (i 0).val; rw [hv]; omega
  | ⟨1, _⟩ => show 1024 * (Value.pt10Of i % 4) + (i 1).val % 1024 = (i 1).val; rw [hv]; omega
  | ⟨2, _⟩ => rfl

end Cert.Kernel2Ideal.Ffn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Fox.KernelRun
public import proofs.«01_k».proof.Proof.Fox.KernelIdealRun
public import proofs.«01_k».proof.Proof.Fox.Arrays
public import proofs.«01_k».proof.Proof.Fox.Reference
public import proofs.«01_k».proof.Proof.Fox.Precondition
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Ffn.Whole

@[expose] public section

noncomputable section

namespace Cert.Proof

open Idealize.ShloMosaic Idealize.SL.Sem

/-- The kernel runs, leaves its arguments, and ends with every counter at zero. -/
theorem frame_kernel : Cert.quiescent_Kernel := fun m ρ _ =>
  (θ_run _ _ _).mono (fun _ h => ⟨fun c => (h.1 c).2, h.2⟩) (Cert.Kernel.Fox.run_main m ρ)

/-- The kernel's ideal form runs, leaves its arguments, and ends with every counter at zero. -/
theorem frame_kernelIdeal : Cert.quiescent_KernelIdeal := fun m ρ _ =>
  (θ_run _ _ _).mono (fun _ h => ⟨fun c => (h.1 c).2, h.2⟩) (Cert.KernelIdeal.Fox.run_main m ρ)

/-- The reference runs, leaves its arguments, and ends with every counter at zero. -/
theorem frame_referenceIdeal : Cert.quiescent_ReferenceIdeal := fun m ρ _ =>
  (θ_run _ _ _).mono (fun r h => ⟨fun c => (h c).2, sem_eq_zero_of_no_sems (by decide) r.2⟩) (Cert.ReferenceIdeal.Value.run m ρ)

/-- The same under the precondition, which the run does not need. -/
theorem frame_kernelIdeal_real : Cert.quiescent_KernelIdeal_pre_real_logits := fun m ρ _ => frame_kernelIdeal m ρ trivial

/-- The same under the precondition, which the run does not need. -/
theorem frame_referenceIdeal_real : Cert.quiescent_ReferenceIdeal_pre_real_logits := fun m ρ _ => frame_referenceIdeal m ρ trivial

/-- The mask's constant becomes the bottom element, everything else stays. -/
theorem preserves_mask : Cert.preserves_Kernel_KernelIdeal :=
  IdealRules.named_const.statement Cert.KernelIdeal.κ "mask" .f32 0xF149F2CA#32 ⊥ rfl

/-- The reference as a function of its arguments is the attention of every query. -/
theorem reference_whole (A : Cert.Fox.Args) (G : A.Good) :
    Cert.ReferenceIdeal.Fox.attention A.qt A.k A.vt A.dec = Cert.KernelIdeal.Fox.whole A :=
  funext fun i => (congrArg (Cert.ReferenceIdeal.Fox.attention A.qt A.k A.vt A.dec)
      (show i = ix3 (i 0) (i 1) (i 2) from funext fun a => by fin_cases a <;> rfl)).trans
    (Cert.ReferenceIdeal.Fox.attention_apply G (i 0) (i 1) (i 2))

/-- The kernel's ideal form and the reference compute the same extended reals from the same
    arguments: both are the softmax of the logits up to the query, times the values. -/
theorem algebraic_fox : Cert.algebraic_KernelIdeal_ReferenceIdeal_pre_real_logits := by
  intro m ρ m' ρ' hpre hagree
  have good : ∀ c, (Cert.KernelIdeal.Fox.argsOf c m).Good := fun c => Cert.Pre_real_logits.good _ _ _ _ (hpre c)
  refine ⟨fun c => Cert.KernelIdeal.Fox.foxArr m c,
    (θ_run _ _ _).mono (fun _ h => h.1) (Cert.KernelIdeal.Fox.run_main m ρ),
    (θ_run _ _ _).mono (fun r h c => ⟨(h c).1.trans ?_, (h c).2⟩) (Cert.ReferenceIdeal.Value.run m' ρ')⟩
  obtain ⟨h0, h1, h2, h3⟩ := hagree c
  rw [Cert.ReferenceIdeal.Fox.res_eq, h0, h1, h2, h3]
  exact (reference_whole (Cert.KernelIdeal.Fox.argsOf c m) (good c)).trans (Cert.KernelIdeal.Fox.foxArr_eq c m (good c)).symm

/-- The feed-forward call runs, leaves its arguments, and ends with every counter at zero. -/
theorem frame_kernel2 : Cert.quiescent_Kernel2 := fun m ρ _ => Cert.Kernel2.Gen.frame m ρ

/-- The feed-forward call's ideal form runs, leaves its arguments, and ends with every counter at zero. -/
theorem frame_kernel2Ideal : Cert.quiescent_Kernel2Ideal := fun m ρ _ => Cert.Kernel2Ideal.Gen.frame m ρ

/-- The feed-forward reference runs, leaves its arguments, and ends with every counter at zero. -/
theorem frame_reference2Ideal : Cert.quiescent_Reference2Ideal := fun m ρ _ =>
  (θ_run _ _ _).mono (fun r h => ⟨fun c => (h c).2, sem_eq_zero_of_no_sems (by decide) r.2⟩) (Cert.Reference2Ideal.Value.run m ρ)

/-- The feed-forward call's ideal form and its reference compute the same extended reals from the same
    arguments, whatever they are. -/
theorem algebraic_ffn : Cert.algebraic_Kernel2Ideal_Reference2Ideal := by
  intro m ρ m' ρ' _ hagree
  refine ⟨fun c => Cert.Kernel2Ideal.Value.G10 m c, Cert.Kernel2Ideal.Value.run m ρ,
    (θ_run _ _ _).mono (fun r h c => ⟨(h c).1.trans ?_, (h c).2⟩) (Cert.Reference2Ideal.Value.run m' ρ')⟩
  obtain ⟨h0, h1, h2, h3, h4, h5, h6, h7, h8, h9⟩ := hagree c
  refine (Cert.Reference2Ideal.Ffn.res_eq m' c).trans (Eq.trans ?_ (Cert.Kernel2Ideal.Ffn.result_eq m c).symm)
  rw [h0, h1, h2, h3, h4, h5, h6, h7, h8, h9]
  rfl

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_real_logits.facts,
    frame_kernel, frame_kernelIdeal, frame_kernelIdeal_real, frame_referenceIdeal, frame_referenceIdeal_real,
    frame_kernel2, frame_kernel2Ideal, frame_reference2Ideal, preserves_mask, algebraic_fox, trivial,
    algebraic_ffn⟩

end Cert.Proof

end
